-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_finite [hPre_scales_finite : Cert.Pre_scales_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scales_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_scales_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_finite [hPre_scales_finite : Cert.Pre_scales_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_scales_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_scales_finite [hKernelIdeal : Cert.KernelIdeal.Facts] [hPre_scales_finite : Cert.Pre_scales_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_scales_finite [hReferenceIdeal : Cert.ReferenceIdeal.Facts] [hPre_scales_finite : Cert.Pre_scales_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "sm_log2e" .f32 0x3E16C740#32 (((Real.sqrt 96)⁻¹ * (Real.log 2)⁻¹ : ℝ) : EReal)
  ∧ IdealRules.named_const.Statement Cert.KernelIdeal.κ "sm" .f32 0x3DD105EC#32 (((Real.sqrt 96)⁻¹ : ℝ) : EReal)

def algebraic_KernelIdeal_ReferenceIdeal_pre_scales_finite [hKernelIdeal : Cert.KernelIdeal.Facts] [hReferenceIdeal : Cert.ReferenceIdeal.Facts] [hPre_scales_finite : Cert.Pre_scales_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_scales_finite : Cert.Pre_scales_finite.Facts),
    quiescent_Kernel (hKernel := hKernel)
    ∧ quiescent_KernelIdeal (hKernelIdeal := hKernelIdeal)
    ∧ quiescent_KernelIdeal_pre_scales_finite (hKernelIdeal := hKernelIdeal) (hPre_scales_finite := hPre_scales_finite)
    ∧ quiescent_ReferenceIdeal (hReferenceIdeal := hReferenceIdeal)
    ∧ quiescent_ReferenceIdeal_pre_scales_finite (hReferenceIdeal := hReferenceIdeal) (hPre_scales_finite := hPre_scales_finite)
    ∧ preserves_Kernel_KernelIdeal
    ∧ algebraic_KernelIdeal_ReferenceIdeal_pre_scales_finite (hKernelIdeal := hKernelIdeal) (hReferenceIdeal := hReferenceIdeal) (hPre_scales_finite := hPre_scales_finite)
-- ==== Pre_scales_finite.lean ====
abbrev S2x640x32x96 : Shape := ⟨4, ![2, 640, 32, 96]⟩
abbrev S2x640x32 : Shape := ⟨3, ![2, 640, 32]⟩
abbrev S2x640x8x96 : Shape := ⟨4, ![2, 640, 8, 96]⟩
abbrev S2x640x8 : Shape := ⟨3, ![2, 640, 8]⟩
abbrev S2x32x640 : Shape := ⟨3, ![2, 32, 640]⟩
abbrev S2x640 : Shape := ⟨2, ![2, 640]⟩
abbrev S_ : Shape := ⟨0, ![]⟩

class Facts : Prop where
  bcast_S_S2x640x8 : S_.BroadcastsInDim S2x640x8 (![] : Fin 0 → Fin S2x640x8.rank)
  bcast_S_S2x640 : S_.BroadcastsInDim S2x640 (![] : Fin 0 → Fin S2x640.rank)

variable [Facts]

def fn {F : FTy → Type} [FloatOps F] (main_arg0 : FVec F S2x640x32x96 .fp8e4m3) (main_arg1 : FVec F S2x640x32 .f32) (main_arg2 : FVec F S2x640x8x96 .fp8e4m3) (main_arg3 : FVec F S2x640x8 .f32) (main_arg4 : FVec F S2x640x8x96 .fp8e4m3) (main_arg5 : FVec F S2x640x8 .f32) (main_arg6 : FVec F S2x640x32x96 .bf16) (main_arg7 : FVec F S2x32x640 .f32) (main_arg8 : FVec F S2x640x32x96 .fp8e5m2) (main_arg9 : FVec F S2x640 .f32) : IVec S2x640x8 1 × IVec S2x640 1 :=
  let main_cst : FVec F S_ .f32 := constant S_ .f32 0x00000000#32
  let main_v0 : FVec F S2x640x8 .f32 := broadcastInDim S2x640x8 ![] bcast_S_S2x640x8 main_cst
  let main_v1 : IVec S2x640x8 1 := cmpf .oge main_arg5 main_v0
  let main_cst_0 : FVec F S_ .f32 := constant S_ .f32 0x7F800000#32
  let main_v2 : FVec F S2x640x8 .f32 := broadcastInDim S2x640x8 ![] bcast_S_S2x640x8 main_cst_0
  let main_v3 : IVec S2x640x8 1 := cmpf .olt main_arg5 main_v2
  let main_v4 : IVec S2x640x8 1 := andi main_v1 main_v3
  let main_cst_1 : FVec F S_ .f32 := constant S_ .f32 0x00000000#32
  let main_v5 : FVec F S2x640 .f32 := broadcastInDim S2x640 ![] bcast_S_S2x640 main_cst_1
  let main_v6 : IVec S2x640 1 := cmpf .oge main_arg9 main_v5
  let main_cst_2 : FVec F S_ .f32 := constant S_ .f32 0x7F800000#32
  let main_v7 : FVec F S2x640 .f32 := broadcastInDim S2x640 ![] bcast_S_S2x640 main_cst_2
  let main_v8 : IVec S2x640 1 := cmpf .olt main_arg9 main_v7
  let main_v9 : IVec S2x640 1 := andi main_v6 main_v8
  (main_v4, main_v9)
-- ==== Kernel.lean ====
abbrev S2x640x32x96 : Shape := ⟨4, ![2, 640, 32, 96]⟩
abbrev S2x640x32 : Shape := ⟨3, ![2, 640, 32]⟩
abbrev S2x640x8x96 : Shape := ⟨4, ![2, 640, 8, 96]⟩
abbrev S2x640x8 : Shape := ⟨3, ![2, 640, 8]⟩
abbrev S2x32x640 : Shape := ⟨3, ![2, 32, 640]⟩
abbrev S2x640 : Shape := ⟨2, ![2, 640]⟩
abbrev S2x32x96x640 : Shape := ⟨4, ![2, 32, 96, 640]⟩
abbrev S2x8x96x640 : Shape := ⟨4, ![2, 8, 96, 640]⟩
abbrev S2x8x4x640 : Shape := ⟨4, ![2, 8, 4, 640]⟩
abbrev S2x8x640 : Shape := ⟨3, ![2, 8, 640]⟩
abbrev S16x1x640 : Shape := ⟨3, ![16, 1, 640]⟩
abbrev S2x1x640 : Shape := ⟨3, ![2, 1, 640]⟩
abbrev S1x4x96x640 : Shape := ⟨4, ![1, 4, 96, 640]⟩
abbrev S1x1x96x640 : Shape := ⟨4, ![1, 1, 96, 640]⟩
abbrev S1x1x4x640 : Shape := ⟨4, ![1, 1, 4, 640]⟩
abbrev S1x1x640 : Shape := ⟨3, ![1, 1, 640]⟩
abbrev S640x128 : Shape := ⟨2, ![640, 128]⟩
abbrev S96x640 : Shape := ⟨2, ![96, 640]⟩
abbrev S1x640 : Shape := ⟨2, ![1, 640]⟩
abbrev S32x640 : Shape := ⟨2, ![32, 640]⟩
abbrev S128x640 : Shape := ⟨2, ![128, 640]⟩
abbrev S128x512 : Shape := ⟨2, ![128, 512]⟩
abbrev S1x1x96x128 : Shape := ⟨4, ![1, 1, 96, 128]⟩
abbrev S96x128 : Shape := ⟨2, ![96, 128]⟩
abbrev S96x512 : Shape := ⟨2, ![96, 512]⟩
abbrev S1x1x1x128 : Shape := ⟨4, ![1, 1, 1, 128]⟩
abbrev S1x128 : Shape := ⟨2, ![1, 128]⟩
abbrev S1x512 : Shape := ⟨2, ![1, 512]⟩
abbrev S1x1x128 : Shape := ⟨3, ![1, 1, 128]⟩
abbrev S512 : Shape := ⟨1, ![512]⟩
abbrev S32x512 : Shape := ⟨2, ![32, 512]⟩
abbrev S640x512 : Shape := ⟨2, ![640, 512]⟩
abbrev S512x512 : Shape := ⟨2, ![512, 512]⟩
abbrev S512x128 : Shape := ⟨2, ![512, 128]⟩
abbrev S384x512 : Shape := ⟨2, ![384, 512]⟩
abbrev S96x384 : Shape := ⟨2, ![96, 384]⟩
abbrev S384x128 : Shape := ⟨2, ![384, 128]⟩
abbrev S256x512 : Shape := ⟨2, ![256, 512]⟩
abbrev S96x256 : Shape := ⟨2, ![96, 256]⟩
abbrev S256x128 : Shape := ⟨2, ![256, 128]⟩
abbrev S128x128 : Shape := ⟨2, ![128, 128]⟩

abbrev nBuf : Space → Nat
  | .hbm => 29
  | .vmem => 32
  | .smem => 0
  | _ => 0

abbrev bufTy : (tb : Table) → Fin (tcTables nBuf tb) → BufTy
  | .hbm, ⟨0, _⟩ => ⟨S2x640x32x96, .fp8e4m3⟩
  | .hbm, ⟨1, _⟩ => ⟨S2x640x32, .f32⟩
  | .hbm, ⟨2, _⟩ => ⟨S2x640x8x96, .fp8e4m3⟩
  | .hbm, ⟨3, _⟩ => ⟨S2x640x8, .f32⟩
  | .hbm, ⟨4, _⟩ => ⟨S2x640x8x96, .fp8e4m3⟩
  | .hbm, ⟨5, _⟩ => ⟨S2x640x8, .f32⟩
  | .hbm, ⟨6, _⟩ => ⟨S2x640x32x96, .bf16⟩
  | .hbm, ⟨7, _⟩ => ⟨S2x32x640, .f32⟩
  | .hbm, ⟨8, _⟩ => ⟨S2x640x32x96, .fp8e5m2⟩
  | .hbm, ⟨9, _⟩ => ⟨S2x640, .f32⟩
  | .hbm, ⟨10, _⟩ => ⟨S2x32x96x640, .fp8e4m3⟩
  | .hbm, ⟨11, _⟩ => ⟨S2x32x96x640, .fp8e5m2⟩
  | .hbm, ⟨12, _⟩ => ⟨S2x32x96x640, .bf16⟩
  | .hbm, ⟨13, _⟩ => ⟨S2x8x96x640, .fp8e4m3⟩
  | .hbm, ⟨14, _⟩ => ⟨S2x8x96x640, .fp8e4m3⟩
  | .hbm, ⟨15, _⟩ => ⟨S2x32x640, .f32⟩
  | .hbm, ⟨16, _⟩ => ⟨S2x8x4x640, .f32⟩
  | .hbm, ⟨17, _⟩ => ⟨S2x8x640, .f32⟩
  | .hbm, ⟨18, _⟩ => ⟨S16x1x640, .f32⟩
  | .hbm, ⟨19, _⟩ => ⟨S2x8x640, .f32⟩
  | .hbm, ⟨20, _⟩ => ⟨S16x1x640, .f32⟩
  | .hbm, ⟨21, _⟩ => ⟨S2x1x640, .f32⟩
  | .hbm, ⟨22, _⟩ => ⟨S2x8x4x640, .f32⟩
  | .hbm, ⟨23, _⟩ => ⟨S2x32x96x640, .bf16⟩
  | .hbm, ⟨24, _⟩ => ⟨S2x8x96x640, .bf16⟩
  | .hbm, ⟨25, _⟩ => ⟨S2x8x96x640, .bf16⟩
  | .hbm, ⟨26, _⟩ => ⟨S2x640x32x96, .bf16⟩
  | .hbm, ⟨27, _⟩ => ⟨S2x640x8x96, .bf16⟩
  | .hbm, ⟨28, _⟩ => ⟨S2x640x8x96, .bf16⟩
  | .local _ .vmem, ⟨0, _⟩ => ⟨S1x4x96x640, .fp8e4m3⟩
  | .local _ .vmem, ⟨1, _⟩ => ⟨S1x4x96x640, .fp8e4m3⟩
  | .local _ .vmem, ⟨2, _⟩ => ⟨S1x4x96x640, .fp8e5m2⟩
  | .local _ .vmem, ⟨3, _⟩ => ⟨S1x4x96x640, .fp8e5m2⟩
  | .local _ .vmem, ⟨4, _⟩ => ⟨S1x4x96x640, .bf16⟩
  | .local _ .vmem, ⟨5, _⟩ => ⟨S1x4x96x640, .bf16⟩
  | .local _ .vmem, ⟨6, _⟩ => ⟨S1x1x96x640, .fp8e4m3⟩
  | .local _ .vmem, ⟨7, _⟩ => ⟨S1x1x96x640, .fp8e4m3⟩
  | .local _ .vmem, ⟨8, _⟩ => ⟨S1x1x96x640, .fp8e4m3⟩
  | .local _ .vmem, ⟨9, _⟩ => ⟨S1x1x96x640, .fp8e4m3⟩
  | .local _ .vmem, ⟨10, _⟩ => ⟨S1x1x4x640, .f32⟩
  | .local _ .vmem, ⟨11, _⟩ => ⟨S1x1x4x640, .f32⟩
  | .local _ .vmem, ⟨12, _⟩ => ⟨S1x1x640, .f32⟩
  | .local _ .vmem, ⟨13, _⟩ => ⟨S1x1x640, .f32⟩
  | .local _ .vmem, ⟨14, _⟩ => ⟨S1x1x640, .f32⟩
  | .local _ .vmem, ⟨15, _⟩ => ⟨S1x1x640, .f32⟩
  | .local _ .vmem, ⟨16, _⟩ => ⟨S1x1x640, .f32⟩
  | .local _ .vmem, ⟨17, _⟩ => ⟨S1x1x640, .f32⟩
  | .local _ .vmem, ⟨18, _⟩ => ⟨S1x1x4x640, .f32⟩
  | .local _ .vmem, ⟨19, _⟩ => ⟨S1x1x4x640, .f32⟩
  | .local _ .vmem, ⟨20, _⟩ => ⟨S1x4x96x640, .bf16⟩
  | .local _ .vmem, ⟨21, _⟩ => ⟨S1x4x96x640, .bf16⟩
  | .local _ .vmem, ⟨22, _⟩ => ⟨S1x1x96x640, .bf16⟩
  | .local _ .vmem, ⟨23, _⟩ => ⟨S1x1x96x640, .bf16⟩
  | .local _ .vmem, ⟨24, _⟩ => ⟨S1x1x96x640, .bf16⟩
  | .local _ .vmem, ⟨25, _⟩ => ⟨S1x1x96x640, .bf16⟩
  | .local _ .vmem, ⟨26, _⟩ => ⟨S640x128, .fp8e4m3⟩
  | .local _ .vmem, ⟨27, _⟩ => ⟨S640x128, .bf16⟩
  | .local _ .vmem, ⟨28, _⟩ => ⟨S96x640, .bf16⟩
  | .local _ .vmem, ⟨29, _⟩ => ⟨S640x128, .f32⟩
  | .local _ .vmem, ⟨30, _⟩ => ⟨S96x640, .f32⟩
  | .local _ .vmem, ⟨31, _⟩ => ⟨S96x640, .f32⟩
  | _, _ => ⟨S2x640x32x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4x96x640 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x96x640 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x96x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x96x640 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x96x640 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x4x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x4x640 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x96x640 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x96x640 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x96x640 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "log2e" => some (((Real.log 2)⁻¹ : ℝ) : EReal)
  | "sm" => some (((Real.sqrt 96)⁻¹ : ℝ) : EReal)
  | "sm_log2e" => some (((Real.sqrt 96)⁻¹ * (Real.log 2)⁻¹ : ℝ) : EReal)
  | _ => none
-- ==== ReferenceIdeal.lean ====
abbrev S2x640x32x96 : Shape := ⟨4, ![2, 640, 32, 96]⟩
abbrev S2x640x32 : Shape := ⟨3, ![2, 640, 32]⟩
abbrev S2x640x8x96 : Shape := ⟨4, ![2, 640, 8, 96]⟩
abbrev S2x640x8 : Shape := ⟨3, ![2, 640, 8]⟩
abbrev S2x32x640 : Shape := ⟨3, ![2, 32, 640]⟩
abbrev S2x640 : Shape := ⟨2, ![2, 640]⟩
abbrev S_ : Shape := ⟨0, ![]⟩
abbrev S2x640x8x4x96 : Shape := ⟨5, ![2, 640, 8, 4, 96]⟩
abbrev S2x640x8x4 : Shape := ⟨4, ![2, 640, 8, 4]⟩
abbrev S2x8x4x640 : Shape := ⟨4, ![2, 8, 4, 640]⟩
abbrev S2x8x640 : Shape := ⟨3, ![2, 8, 640]⟩
abbrev S2x640x1x1 : Shape := ⟨4, ![2, 640, 1, 1]⟩
abbrev S2x640x8x1 : Shape := ⟨4, ![2, 640, 8, 1]⟩
abbrev S2x640x8x4x1 : Shape := ⟨5, ![2, 640, 8, 4, 1]⟩
abbrev S2x640x1x1x1 : Shape := ⟨5, ![2, 640, 1, 1, 1]⟩
abbrev S640 : Shape := ⟨1, ![640]⟩
abbrev S1x640 : Shape := ⟨2, ![1, 640]⟩
abbrev S640x1 : Shape := ⟨2, ![640, 1]⟩
abbrev S640x640 : Shape := ⟨2, ![640, 640]⟩
abbrev S2x8x640x640x4 : Shape := ⟨5, ![2, 8, 640, 640, 4]⟩
abbrev S2x8x4x640x640 : Shape := ⟨5, ![2, 8, 4, 640, 640]⟩
abbrev S2x8x4x640x1 : Shape := ⟨5, ![2, 8, 4, 640, 1]⟩
abbrev S2x8x1x1x640 : Shape := ⟨5, ![2, 8, 1, 1, 640]⟩
abbrev S2x1x1x640x1 : Shape := ⟨5, ![2, 1, 1, 640, 1]⟩
abbrev S2x8x96x4x640 : Shape := ⟨5, ![2, 8, 96, 4, 640]⟩
abbrev S2x8x96x640 : Shape := ⟨4, ![2, 8, 96, 640]⟩

abbrev nBuf : Space → Nat
  | .hbm => 103
  | .vmem => 8
  | .smem => 0
  | _ => 0

abbrev bufTy : (tb : Table) → Fin (tcTables nBuf tb) → BufTy
  | .hbm, ⟨0, _⟩ => ⟨S2x640x32x96, .fp8e4m3⟩
  | .hbm, ⟨1, _⟩ => ⟨S2x640x32, .f32⟩
  | .hbm, ⟨2, _⟩ => ⟨S2x640x8x96, .fp8e4m3⟩
  | .hbm, ⟨3, _⟩ => ⟨S2x640x8, .f32⟩
  | .hbm, ⟨4, _⟩ => ⟨S2x640x8x96, .fp8e4m3⟩
  | .hbm, ⟨5, _⟩ => ⟨S2x640x8, .f32⟩
  | .hbm, ⟨6, _⟩ => ⟨S2x640x32x96, .bf16⟩
  | .hbm, ⟨7, _⟩ => ⟨S2x32x640, .f32⟩
  | .hbm, ⟨8, _⟩ => ⟨S2x640x32x96, .fp8e5m2⟩
  | .hbm, ⟨9, _⟩ => ⟨S2x640, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S2x640x32x96, .bf16⟩
  | .hbm, ⟨15, _⟩ => ⟨S2x640x8x96, .bf16⟩
  | .hbm, ⟨16, _⟩ => ⟨S2x640x8x96, .bf16⟩
  | .hbm, ⟨17, _⟩ => ⟨S2x640x32x96, .bf16⟩
  | .hbm, ⟨18, _⟩ => ⟨S2x640x8x4x96, .bf16⟩
  | .hbm, ⟨19, _⟩ => ⟨S2x640x8x4, .f32⟩
  | .hbm, ⟨20, _⟩ => ⟨S2x8x4x640, .f32⟩
  | .hbm, ⟨21, _⟩ => ⟨S2x8x640, .f32⟩
  | .hbm, ⟨22, _⟩ => ⟨S2x8x640, .f32⟩
  | .hbm, ⟨23, _⟩ => ⟨S2x640x8x4x96, .bf16⟩
  | .hbm, ⟨24, _⟩ => ⟨S2x8x4x640, .f32⟩
  | .hbm, ⟨25, _⟩ => ⟨S2x640x32x96, .f32⟩
  | .hbm, ⟨26, _⟩ => ⟨S2x640x1x1, .f32⟩
  | .hbm, ⟨27, _⟩ => ⟨S2x640x32x96, .f32⟩
  | .hbm, ⟨28, _⟩ => ⟨S2x640x32x96, .f32⟩
  | .hbm, ⟨29, _⟩ => ⟨S2x640x32x96, .f32⟩
  | .hbm, ⟨30, _⟩ => ⟨S2x640x32x96, .f32⟩
  | .hbm, ⟨31, _⟩ => ⟨S_, .f32⟩
  | .hbm, ⟨32, _⟩ => ⟨S2x640x32, .f32⟩
  | .hbm, ⟨33, _⟩ => ⟨S2x640x8x4, .f32⟩
  | .hbm, ⟨34, _⟩ => ⟨S2x8x4x640, .f32⟩
  | .hbm, ⟨35, _⟩ => ⟨S2x640x8, .bf16⟩
  | .hbm, ⟨36, _⟩ => ⟨S2x640x8x1, .bf16⟩
  | .hbm, ⟨37, _⟩ => ⟨S2x640x8x96, .bf16⟩
  | .hbm, ⟨38, _⟩ => ⟨S2x640x8x96, .bf16⟩
  | .hbm, ⟨39, _⟩ => ⟨S2x640x32, .bf16⟩
  | .hbm, ⟨40, _⟩ => ⟨S2x640x8x4, .bf16⟩
  | .hbm, ⟨41, _⟩ => ⟨S2x640x8x4x1, .bf16⟩
  | .hbm, ⟨42, _⟩ => ⟨S2x640x8x4x96, .bf16⟩
  | .hbm, ⟨43, _⟩ => ⟨S2x640x8x4x96, .bf16⟩
  | .hbm, ⟨44, _⟩ => ⟨S2x640, .bf16⟩
  | .hbm, ⟨45, _⟩ => ⟨S2x640x1x1x1, .bf16⟩
  | .hbm, ⟨46, _⟩ => ⟨S2x640x8x4x96, .bf16⟩
  | .hbm, ⟨47, _⟩ => ⟨S2x640x8x4x96, .bf16⟩
  | .hbm, ⟨48, _⟩ => ⟨S640, .i32⟩
  | .hbm, ⟨49, _⟩ => ⟨S1x640, .i32⟩
  | .hbm, ⟨50, _⟩ => ⟨S640, .i32⟩
  | .hbm, ⟨51, _⟩ => ⟨S640x1, .i32⟩
  | .hbm, ⟨52, _⟩ => ⟨S640x640, .i32⟩
  | .hbm, ⟨53, _⟩ => ⟨S640x640, .i32⟩
  | .hbm, ⟨54, _⟩ => ⟨S640x640, .i1⟩
  | .hbm, ⟨55, _⟩ => ⟨S2x8x640x640x4, .f32⟩
  | .hbm, ⟨56, _⟩ => ⟨S2x8x4x640x640, .f32⟩
  | .hbm, ⟨57, _⟩ => ⟨S2x8x4x640x1, .f32⟩
  | .hbm, ⟨58, _⟩ => ⟨S2x8x4x640x640, .f32⟩
  | .hbm, ⟨59, _⟩ => ⟨S2x8x4x640x640, .f32⟩
  | .hbm, ⟨60, _⟩ => ⟨S2x8x1x1x640, .f32⟩
  | .hbm, ⟨61, _⟩ => ⟨S2x8x4x640x640, .f32⟩
  | .hbm, ⟨62, _⟩ => ⟨S2x8x4x640x640, .f32⟩
  | .hbm, ⟨63, _⟩ => ⟨S2x8x4x640x640, .f32⟩
  | .hbm, ⟨64, _⟩ => ⟨S2x8x4x640x640, .f32⟩
  | .hbm, ⟨65, _⟩ => ⟨S_, .f32⟩
  | .hbm, ⟨66, _⟩ => ⟨S_, .f32⟩
  | .hbm, ⟨67, _⟩ => ⟨S2x8x4x640x640, .i1⟩
  | .hbm, ⟨68, _⟩ => ⟨S2x8x4x640x640, .f32⟩
  | .hbm, ⟨69, _⟩ => ⟨S2x8x4x640x640, .f32⟩
  | .hbm, ⟨70, _⟩ => ⟨S2x8x4x640x1, .f32⟩
  | .hbm, ⟨71, _⟩ => ⟨S2x8x4x640x640, .f32⟩
  | .hbm, ⟨72, _⟩ => ⟨S2x8x4x640x640, .f32⟩
  | .hbm, ⟨73, _⟩ => ⟨S2x8x4x640x640, .f32⟩
  | .hbm, ⟨74, _⟩ => ⟨S2x8x640x640x4, .f32⟩
  | .hbm, ⟨75, _⟩ => ⟨S2x8x4x640x640, .f32⟩
  | .hbm, ⟨76, _⟩ => ⟨S2x1x1x640x1, .f32⟩
  | .hbm, ⟨77, _⟩ => ⟨S2x8x4x640x640, .f32⟩
  | .hbm, ⟨78, _⟩ => ⟨S2x8x4x640x640, .f32⟩
  | .hbm, ⟨79, _⟩ => ⟨S2x8x1x1x640, .f32⟩
  | .hbm, ⟨80, _⟩ => ⟨S2x8x4x640x640, .f32⟩
  | .hbm, ⟨81, _⟩ => ⟨S2x8x4x640x640, .f32⟩
  | .hbm, ⟨82, _⟩ => ⟨S2x8x4x640x1, .f32⟩
  | .hbm, ⟨83, _⟩ => ⟨S2x8x4x640x640, .f32⟩
  | .hbm, ⟨84, _⟩ => ⟨S2x8x4x640x640, .f32⟩
  | .hbm, ⟨85, _⟩ => ⟨S2x8x4x640x640, .f32⟩
  | .hbm, ⟨86, _⟩ => ⟨S2x8x4x640x640, .bf16⟩
  | .hbm, ⟨87, _⟩ => ⟨S2x8x96x4x640, .f32⟩
  | .hbm, ⟨88, _⟩ => ⟨S2x640x8x4x96, .f32⟩
  | .hbm, ⟨89, _⟩ => ⟨S2x640x8x4x96, .f32⟩
  | .hbm, ⟨90, _⟩ => ⟨S2x640x8x4x96, .f32⟩
  | .hbm, ⟨91, _⟩ => ⟨S2x640x8x4x96, .bf16⟩
  | .hbm, ⟨92, _⟩ => ⟨S2x8x4x640x640, .bf16⟩
  | .hbm, ⟨93, _⟩ => ⟨S2x8x96x640, .f32⟩
  | .hbm, ⟨94, _⟩ => ⟨S2x640x8x96, .f32⟩
  | .hbm, ⟨95, _⟩ => ⟨S2x640x8x96, .f32⟩
  | .hbm, ⟨96, _⟩ => ⟨S2x640x8x96, .f32⟩
  | .hbm, ⟨97, _⟩ => ⟨S2x640x8x96, .bf16⟩
  | .hbm, ⟨98, _⟩ => ⟨S2x8x4x640x640, .bf16⟩
  | .hbm, ⟨99, _⟩ => ⟨S2x8x96x640, .f32⟩
  | .hbm, ⟨100, _⟩ => ⟨S2x640x8x96, .f32⟩
  | .hbm, ⟨101, _⟩ => ⟨S2x640x8x96, .bf16⟩
  | .hbm, ⟨102, _⟩ => ⟨S2x640x32x96, .bf16⟩
  | .local _ .vmem, ⟨0, _⟩ => ⟨S2x640x32x96, .fp8e4m3⟩
  | .local _ .vmem, ⟨1, _⟩ => ⟨S2x640x8x96, .fp8e4m3⟩
  | .local _ .vmem, ⟨2, _⟩ => ⟨S2x640x8x96, .fp8e4m3⟩
  | .local _ .vmem, ⟨3, _⟩ => ⟨S2x640x32x96, .fp8e5m2⟩
  | .local _ .vmem, ⟨4, _⟩ => ⟨S2x640x32x96, .bf16⟩
  | .local _ .vmem, ⟨5, _⟩ => ⟨S2x640x8x96, .bf16⟩
  | .local _ .vmem, ⟨6, _⟩ => ⟨S2x640x8x96, .bf16⟩
  | .local _ .vmem, ⟨7, _⟩ => ⟨S2x640x32x96, .bf16⟩
  | _, _ => ⟨S2x640x32x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2_0 : Ref sig .tc := ⟨.hbm, 14, rfl⟩
abbrev main_v2_1 : Ref sig .tc := ⟨.hbm, 15, rfl⟩
abbrev main_v2_2 : Ref sig .tc := ⟨.hbm, 16, rfl⟩
abbrev main_v2_3 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_2 : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x640x32x96 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x640x8x96 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x640x8x96 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x640x32x96 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x640x32x96 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x640x8x96 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x640x8x96 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x640x32x96 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Math.Model.lean ====
module

public import Idealize.ShloMosaic.PureOps.Ideal

/-!
The mathematics of the gradient of grouped-query attention for ONE batch entry and ONE key/value head, over the
extended reals: the four query heads that share the key/value head, 96 channels, 640 positions. `Block` holds the
arrays; the definitions below are the probabilities, their gradient, and the three results, in the arrangement in
which the scales are multiplied into the operands.
-/

@[expose] public section
noncomputable section

namespace Cert.Gqa
open Idealize.ShloMosaic

/-- The scale of the scores, 1/√96. -/
abbrev sm : EReal := (((Real.sqrt 96)⁻¹ : ℝ) : EReal)
/-- 1/ln 2, the factor between a natural exponent and a binary one. -/
abbrev log2e : EReal := (((Real.log 2)⁻¹ : ℝ) : EReal)
/-- Both factors at once. -/
abbrev smLog2e : EReal := (((Real.sqrt 96)⁻¹ * (Real.log 2)⁻¹ : ℝ) : EReal)

/-- What one batch entry and one key/value head read: queries, their output gradients and their outputs by (query
    head, channel, position), keys and values by (channel, position), the scales and the log-sum-exps. -/
structure Block where
  /-- The queries, unscaled. -/
  q : Fin 4 → Fin 96 → Fin 640 → EReal
  /-- The gradient of the output, unscaled. -/
  dO : Fin 4 → Fin 96 → Fin 640 → EReal
  /-- The output of the forward pass. -/
  o : Fin 4 → Fin 96 → Fin 640 → EReal
  /-- The keys, unscaled. -/
  k : Fin 96 → Fin 640 → EReal
  /-- The values, unscaled. -/
  v : Fin 96 → Fin 640 → EReal
  /-- The scale of each query row. -/
  qs : Fin 4 → Fin 640 → EReal
  /-- The log-sum-exp of each query row. -/
  lse : Fin 4 → Fin 640 → EReal
  /-- The scale of each key row. -/
  ks : Fin 640 → EReal
  /-- The scale of each value row. -/
  vs : Fin 640 → EReal
  /-- The scale of each row of the output gradient. -/
  ds : Fin 640 → EReal

namespace Block
variable (B : Block)

/-- The scaled queries. -/
def qw (x : Fin 4) (d : Fin 96) (i : Fin 640) : EReal := B.q x d i * B.qs x i
/-- The scaled output gradients. -/
def dw (x : Fin 4) (d : Fin 96) (i : Fin 640) : EReal := B.dO x d i * B.ds i
/-- The scaled keys. -/
def kw (d : Fin 96) (j : Fin 640) : EReal := B.k d j * B.ks j
/-- The scaled values. -/
def vw (d : Fin 96) (j : Fin 640) : EReal := B.v d j * B.vs j

/-- The binary exponent of the probability of key `j` for query `i` of head `x`, before the mask. -/
def t (x : Fin 4) (i j : Fin 640) : EReal :=
  (∑ d, B.k d j * B.q x d i) * B.ks j * (B.qs x i * smLog2e) - B.lse x i * log2e
/-- The probability: zero for a key after the query. -/
def p (x : Fin 4) (i j : Fin 640) : EReal := if j ≤ i then Ideal.exp2 (B.t x i j) else 0
/-- The gradient of the probability. -/
def dp (x : Fin 4) (i j : Fin 640) : EReal := ∑ d, B.vw d j * B.dw x d i
/-- The row term of the softmax gradient. -/
def delta (x : Fin 4) (i : Fin 640) : EReal := ∑ d, B.dw x d i * B.o x d i
/-- The gradient of the score. -/
def g (x : Fin 4) (i j : Fin 640) : EReal := B.p x i j * (B.dp x i j - B.delta x i)

/-- The gradient of the queries. -/
def dq (x : Fin 4) (d : Fin 96) (i : Fin 640) : EReal := (∑ j, B.kw d j * B.g x i j) * sm
/-- The gradient of the values. -/
def dv (d : Fin 96) (j : Fin 640) : EReal := ∑ x, ∑ i, B.dw x d i * B.p x i j
/-- The gradient of the keys. -/
def dk (d : Fin 96) (j : Fin 640) : EReal := (∑ x, ∑ i, B.qw x d i * B.g x i j) * sm

/-- A key after the query has probability zero. -/
theorem p_eq_zero {x : Fin 4} {i j : Fin 640} (h : i < j) : B.p x i j = 0 := by
  rw [p, if_neg (not_le.mpr h)]

/-- A key after the query has score gradient zero. -/
theorem g_eq_zero {x : Fin 4} {i j : Fin 640} (h : i < j) : B.g x i j = 0 := by
  rw [g, B.p_eq_zero h, zero_mul]

end Block

/-! ## The four heads of 128 rows side by side -/

/-- The query head of column `n` of a chunk: 128 columns to a head. -/
def hd (n : Fin 512) : Fin 4 := ⟨n / 128, by omega⟩
/-- The position of column `n` of chunk `c`. -/
def pos (c : Fin 5) (n : Fin 512) : Fin 640 := ⟨128 * c + n % 128, by omega⟩
/-- The position of row `n` of the 128 rows of chunk `c`. -/
def row (c : Fin 5) (n : Fin 128) : Fin 640 := ⟨128 * c + n, by omega⟩

/-- A sum over heads and positions is the sum over the chunks of the sums over a chunk's columns. -/
theorem sum_heads (F : Fin 4 → Fin 640 → EReal) :
    ∑ x, ∑ i, F x i = ∑ c : Fin 5, ∑ n : Fin 512, F (hd n) (pos c n) := by
  have hi : ∀ G : Fin 640 → EReal, ∑ i, G i = ∑ c : Fin 5, ∑ r : Fin 128, G (row c r) := by
    intro G
    rw [← Fintype.sum_prod_type', ← Equiv.sum_comp (finProdFinEquiv (m := 5) (n := 128)) G]
    refine Finset.sum_congr rfl fun z _ => congrArg G (Fin.ext ?_)
    simp [row, finProdFinEquiv]; omega
  have hn : ∀ G : Fin 4 → Fin 640 → EReal, ∀ c : Fin 5,
      ∑ n : Fin 512, G (hd n) (pos c n) = ∑ x, ∑ r : Fin 128, G x (row c r) := by
    intro G c
    rw [← Fintype.sum_prod_type',
      ← Equiv.sum_comp (finProdFinEquiv (m := 4) (n := 128)) (fun n : Fin 512 => G (hd n) (pos c n))]
    refine Finset.sum_congr rfl fun z _ => congrArg₂ G (Fin.ext ?_) (Fin.ext ?_)
    · simp [hd, finProdFinEquiv]; omega
    · simp [pos, row, finProdFinEquiv, Nat.mod_eq_of_lt]
  simp only [hn, hi]
  exact Finset.sum_comm

/-- The sum of `f` over the chunks from `c` on. -/
def tail (f : Fin 5 → EReal) (c : Fin 5) : EReal := ∑ c', if c ≤ c' then f c' else 0

/-- The last chunk alone. -/
theorem tail_last (f : Fin 5 → EReal) : tail f 4 = f 4 := by
  simp [tail, Fin.sum_univ_five]

/-- One more chunk. -/
theorem tail_step (f : Fin 5 → EReal) (c c' : Fin 5) (h : (c' : ℕ) = c + 1) : tail f c = f c + tail f c' := by
  have e : ∀ b : Fin 5, (if c ≤ b then f b else 0) = (if b = c then f b else 0) + (if c' ≤ b then f b else 0) := by
    intro b
    rcases lt_trichotomy b c with hb | rfl | hb
    · rw [if_neg (by omega), if_neg (by omega), if_neg (by omega), add_zero]
    · rw [if_pos le_rfl, if_pos rfl, if_neg (by omega), add_zero]
    · rw [if_pos (by omega), if_neg (by omega), if_pos (by omega), zero_add]
  rw [tail, tail, Finset.sum_congr rfl fun b _ => e b, Finset.sum_add_distrib]
  simp

/-- A sum over the chunks starts at `c` when the earlier chunks add nothing. -/
theorem tail_all (f : Fin 5 → EReal) (c : Fin 5) (h : ∀ b, b < c → f b = 0) : tail f c = ∑ b, f b := by
  refine Finset.sum_congr rfl fun b _ => ?_
  by_cases hb : c ≤ b
  · rw [if_pos hb]
  · rw [if_neg hb, h b (not_le.mp hb)]

/-- A sum over the first `w` keys is the sum over all of them when the later ones add nothing. -/
theorem sum_keys {w : ℕ} (hw : w ≤ 640) (F : Fin 640 → EReal) (h : ∀ j : Fin 640, w ≤ j → F j = 0) :
    ∑ j : Fin w, F (Fin.castLE hw j) = ∑ j, F j := by
  rw [← Finset.sum_subset (Finset.subset_univ (Finset.univ.map (Fin.castLEEmb hw)))
    (fun j _ hj => h j ?_), Finset.sum_map]
  · rfl
  · by_contra hlt
    exact hj (Finset.mem_map.mpr ⟨⟨j, not_le.mp hlt⟩, Finset.mem_univ _, Fin.ext rfl⟩)

/-! ## A chunk's part of the key and value gradients -/

namespace Block
variable (B : Block)

/-- What chunk `c` of queries adds to the gradient of the values. -/
def dvPart (c : Fin 5) (d : Fin 96) (j : Fin 640) : EReal :=
  ∑ n, B.dw (hd n) d (pos c n) * B.p (hd n) (pos c n) j
/-- What chunk `c` of queries adds to the gradient of the keys, before the scale. -/
def dkPart (c : Fin 5) (d : Fin 96) (j : Fin 640) : EReal :=
  ∑ n, B.qw (hd n) d (pos c n) * B.g (hd n) (pos c n) j

/-- The gradient of the values at a key of chunk `c` is the sum of the parts from chunk `c` on. -/
theorem dv_row (c : Fin 5) (d : Fin 96) (r : Fin 128) :
    tail (fun b => B.dvPart b d (row c r)) c = B.dv d (row c r) := by
  rw [dv, sum_heads, tail_all]
  · rfl
  · intro b hb
    refine Finset.sum_eq_zero fun n _ => ?_
    rw [B.p_eq_zero (by simp only [Fin.lt_def, pos, row] at *; omega), mul_zero]

/-- The gradient of the keys at a key of chunk `c` is the scaled sum of the parts from chunk `c` on. -/
theorem dk_row (c : Fin 5) (d : Fin 96) (r : Fin 128) :
    tail (fun b => B.dkPart b d (row c r)) c * sm = B.dk d (row c r) := by
  rw [dk, sum_heads, tail_all]
  · rfl
  · intro b hb
    refine Finset.sum_eq_zero fun n _ => ?_
    rw [B.g_eq_zero (by simp only [Fin.lt_def, pos, row] at *; omega), mul_zero]

/-- The gradient of the queries of chunk `c` needs the keys up to the chunk's end only. -/
theorem dq_pos {w : ℕ} (hw : w ≤ 640) (c : Fin 5) (h : w = 128 * (c + 1)) (d : Fin 96) (n : Fin 512) :
    (∑ j : Fin w, B.kw d (Fin.castLE hw j) * B.g (hd n) (pos c n) (Fin.castLE hw j)) * sm
      = B.dq (hd n) d (pos c n) := by
  rw [dq, sum_keys hw (fun j => B.kw d j * B.g (hd n) (pos c n) j)]
  intro j hj
  rw [B.g_eq_zero (by simp only [Fin.lt_def, pos]; omega), mul_zero]

end Block
end Cert.Gqa
-- ==== Proof.Block.Layout.lean ====
module

public import proofs.«01_k».proof.Proof.Math.Model
public import proofs.«01_k».proof.Proof.Gen.KernelIdeal.Skeleton
public import Idealize.ShloMosaic.Lib.Pipeline.ValueKit
public import Idealize.ShloMosaic.Lib.WordCmp

/-!
What the arrays of one chunk of queries hold. A chunk is 128 positions of the four query heads, laid side by side as
512 columns: column `n` is head `hd n` at position `pos c n`. The lemmas here are those that hold for every chunk.
-/

@[expose] public section
set_option maxRecDepth 16384
noncomputable section

namespace Cert.Gqa
open Idealize.ShloMosaic Idealize.SL.Sem Cert.KernelIdeal Cert.KernelIdeal.Gen

/-- Four arrays of 96 channels and 128 positions are the chunk-`c` positions of the four heads of `Q`. -/
structure Heads (Q : Fin 4 → Fin 96 → Fin 640 → EReal) (c : Fin 5) (a0 a1 a2 a3 : S1x1x96x128.Idx → EReal) : Prop where
  h0 : ∀ d r, a0 (ix4 0 0 d r) = Q 0 d (row c r)
  h1 : ∀ d r, a1 (ix4 0 0 d r) = Q 1 d (row c r)
  h2 : ∀ d r, a2 (ix4 0 0 d r) = Q 2 d (row c r)
  h3 : ∀ d r, a3 (ix4 0 0 d r) = Q 3 d (row c r)

/-- Four rows of 128 positions are the chunk-`c` positions of the four heads of `Q`. -/
structure RowHeads (Q : Fin 4 → Fin 640 → EReal) (c : Fin 5) (a0 a1 a2 a3 : S1x1x1x128.Idx → EReal) : Prop where
  h0 : ∀ r, a0 (ix4 0 0 0 r) = Q 0 (row c r)
  h1 : ∀ r, a1 (ix4 0 0 0 r) = Q 1 (row c r)
  h2 : ∀ r, a2 (ix4 0 0 0 r) = Q 2 (row c r)
  h3 : ∀ r, a3 (ix4 0 0 0 r) = Q 3 (row c r)

/-- The 512 columns of chunk `c` by channel. -/
def Cols (Q : Fin 4 → Fin 96 → Fin 640 → EReal) (c : Fin 5) (T : S96x512.Idx → EReal) : Prop :=
  ∀ d n, T (ix2 d n) = Q (hd n) d (pos c n)
/-- The 512 columns of chunk `c` of a row. -/
def Row (Q : Fin 4 → Fin 640 → EReal) (c : Fin 5) (T : S1x512.Idx → EReal) : Prop :=
  ∀ n, T (ix2 0 n) = Q (hd n) (pos c n)

/-- Keys by columns of chunk `c`, for the first `w` keys. -/
def Keys {w : ℕ} (hw : w ≤ 640) (F : Fin 4 → Fin 640 → Fin 640 → EReal) (c : Fin 5)
    (T : (⟨2, ![w, 512]⟩ : Shape).Idx → EReal) : Prop :=
  ∀ j n, T (ix2 j n) = F (hd n) (pos c n) (Fin.castLE hw j)

/-- The value by column of four heads side by side. -/
theorem ladder {α : Type*} (F : Fin 4 → Fin 640 → α) (c : Fin 5) (n : Fin 512) :
    (if h : (n : ℕ) < 128 then F 0 (row c ⟨n, h⟩)
      else if h1 : (n : ℕ) - 128 < 128 then F 1 (row c ⟨n - 128, h1⟩)
      else if h2 : (n : ℕ) - 128 - 128 < 128 then F 2 (row c ⟨n - 128 - 128, h2⟩)
      else F 3 (row c ⟨n - 128 - 128 - 128, by omega⟩)) = F (hd n) (pos c n) := by
  split_ifs <;> refine congrArg₂ F (Fin.ext ?_) (Fin.ext ?_) <;> simp [hd, pos, row] <;> omega

/-- A value that is the same for the four copies of a row. -/
theorem ladder_same {α : Type*} (F : Fin 128 → α) (n : Fin 512) :
    (if h : (n : ℕ) < 128 then F ⟨n, h⟩
      else if h1 : (n : ℕ) - 128 < 128 then F ⟨n - 128, h1⟩
      else if h2 : (n : ℕ) - 128 - 128 < 128 then F ⟨n - 128 - 128, h2⟩
      else F ⟨n - 128 - 128 - 128, by omega⟩) = F ⟨n % 128, by omega⟩ := by
  split_ifs <;> refine congrArg F (Fin.ext ?_) <;> simp <;> omega

variable {φ ψ : FTy} {c : Fin 5}

/-- Four heads side by side. -/
theorem cols_concat {Q : Fin 4 → Fin 96 → Fin 640 → EReal} {a0 a1 a2 a3 : FVec Ideal S1x1x96x128 φ}
    (h : Heads Q c a0 a1 a2 a3) :
    Cols Q c (concatenate S96x512 1 [⟨S96x128, shapeCast S96x128 a0 shapeCasts_S1x1x96x128_S96x128⟩,
      ⟨S96x128, shapeCast S96x128 a1 shapeCasts_S1x1x96x128_S96x128⟩,
      ⟨S96x128, shapeCast S96x128 a2 shapeCasts_S1x1x96x128_S96x128⟩,
      ⟨S96x128, shapeCast S96x128 a3 shapeCasts_S1x1x96x128_S96x128⟩]
      concatenates_S96x128_S96x128_S96x128_S96x128_S96x512_d1 : FVec Ideal S96x512 φ) := by
  intro d n
  pointwise
  simp only [h.h0, h.h1, h.h2, h.h3]
  exact ladder (fun x i => Q x d i) c n

/-- Four rows side by side. -/
theorem row_concat {Q : Fin 4 → Fin 640 → EReal} {a0 a1 a2 a3 : FVec Ideal S1x1x1x128 φ} (h : RowHeads Q c a0 a1 a2 a3) :
    Row Q c (concatenate S1x512 1 [⟨S1x128, shapeCast S1x128 a0 shapeCasts_S1x1x1x128_S1x128⟩,
      ⟨S1x128, shapeCast S1x128 a1 shapeCasts_S1x1x1x128_S1x128⟩,
      ⟨S1x128, shapeCast S1x128 a2 shapeCasts_S1x1x1x128_S1x128⟩,
      ⟨S1x128, shapeCast S1x128 a3 shapeCasts_S1x1x1x128_S1x128⟩]
      concatenates_S1x128_S1x128_S1x128_S1x128_S1x512_d1 : FVec Ideal S1x512 φ) := by
  intro n
  pointwise
  simp only [h.h0, h.h1, h.h2, h.h3]
  exact ladder Q c n

/-- One row, the same for the four heads. -/
theorem row_same {R : Fin 640 → EReal} {a : FVec Ideal S1x1x128 φ} (h : ∀ r, a (ix3 0 0 r) = R (row c r)) :
    Row (fun _ i => R i) c (concatenate S1x512 1 [⟨S1x128, shapeCast S1x128 a shapeCasts_S1x1x128_S1x128⟩,
      ⟨S1x128, shapeCast S1x128 a shapeCasts_S1x1x128_S1x128⟩,
      ⟨S1x128, shapeCast S1x128 a shapeCasts_S1x1x128_S1x128⟩,
      ⟨S1x128, shapeCast S1x128 a shapeCasts_S1x1x128_S1x128⟩]
      concatenates_S1x128_S1x128_S1x128_S1x128_S1x512_d1 : FVec Ideal S1x512 φ) := by
  intro n
  pointwise
  simp only [h]
  exact ladder_same (fun r => R (row c r)) n

/-- The log-sum-exps in binary exponents. -/
theorem row_log2e {Q : Fin 4 → Fin 640 → EReal} {T : FVec Ideal S1x512 .f32} (h : Row Q c T) :
    Row (fun x i => Q x i * log2e) c
      (mulf T (broadcast S1x512 (Named.named (F := Ideal) κ "log2e" (φ := .f32) 0x3FB8AA3B#32))) := by
  intro n
  pointwise
  rw [h n, IdealRules.named_const.ideal_named_scalar _ _ _ _ rfl]

/-- Columns times a row of scales. -/
theorem cols_scaled {Q : Fin 4 → Fin 96 → Fin 640 → EReal} {R : Fin 4 → Fin 640 → EReal}
    {T : FVec Ideal S96x512 φ} {U : FVec Ideal S1x512 .f32} (hT : Cols Q c T) (hU : Row R c U)
    (hφ : φ.bits < FTy.bf16.bits) :
    Cols (fun x d i => Q x d i * R x i) c
      (mulf (extf .bf16 T hφ) (broadcastTo S96x512 (truncf .bf16 U bitsLt_bf16_f32) broadcasts_S1x512_S96x512)) := by
  intro d n
  pointwise
  rw [hT d n, hU n]

/-- The sum over the channels of the product of two arrays of columns. -/
theorem row_dot {Q R : Fin 4 → Fin 96 → Fin 640 → EReal} {T U : FVec Ideal S96x512 .bf16} (hT : Cols Q c T)
    (hU : Cols R c U) :
    Row (fun x i => ∑ d, Q x d i * R x d i) c
      (shapeCast S1x512 (multiReduction .add [0] S512 (mulf (extf .f32 T bitsLt_bf16_f32) (extf .f32 U bitsLt_bf16_f32))
        0x00000000#32 reduces_S96x512_S512 (.inl rfl) rfl) shapeCasts_S512_S1x512) := by
  intro n
  pointwise
  simp only [hT _ n, hU _ n]

/-- Head `x` of an array of columns, as a block of the query gradient. -/
theorem head_piece {Q : Fin 4 → Fin 96 → Fin 640 → EReal} {T : FVec Ideal S96x512 .f32} (hT : Cols Q c T)
    (y : S1x1x96x128.Idx) :
    shapeCast S1x1x96x128 (truncf .bf16 (extractStridedSlice S96x128 ![0, 0] T slices_S96x512_o0_0_S96x128)
        bitsLt_bf16_f32) shapeCasts_S96x128_S1x1x96x128 y = Q 0 (y 2) (row c (y 3))
    ∧ shapeCast S1x1x96x128 (truncf .bf16 (extractStridedSlice S96x128 ![0, 128] T slices_S96x512_o0_128_S96x128)
        bitsLt_bf16_f32) shapeCasts_S96x128_S1x1x96x128 y = Q 1 (y 2) (row c (y 3))
    ∧ shapeCast S1x1x96x128 (truncf .bf16 (extractStridedSlice S96x128 ![0, 256] T slices_S96x512_o0_256_S96x128)
        bitsLt_bf16_f32) shapeCasts_S96x128_S1x1x96x128 y = Q 2 (y 2) (row c (y 3))
    ∧ shapeCast S1x1x96x128 (truncf .bf16 (extractStridedSlice S96x128 ![0, 384] T slices_S96x512_o0_384_S96x128)
        bitsLt_bf16_f32) shapeCasts_S96x128_S1x1x96x128 y = Q 3 (y 2) (row c (y 3)) := by
  idx_vars y
  refine ⟨?_, ?_, ?_, ?_⟩ <;> pointwise <;> rw [hT] <;>
    refine congrArg₂ (fun x i => Q x _ i) (Fin.ext ?_) (Fin.ext ?_) <;> simp [hd, pos, row] <;> omega

/-! ## The causal mask of the diagonal block -/

/-- Key `j` of the diagonal block is visible to column `n`. -/
def Mask (v : IVec S128x512 1) : Prop := ∀ (j : Fin 128) (n : Fin 512), v (ix2 j n) = BitVec.ofBool (decide ((j : ℕ) ≤ n % 128))

/-- The mask the kernel builds. -/
theorem mask : Mask k0_pay10 := by
  intro j n
  pointwise [k0_pay10]
  have hn : ∀ n : Fin 512, (Scalar.select
        (IntOp.andi
          (IntOp.xori
            (IntOp.cmpi CmpIPredicate.slt
              (IntOp.remsi ArithUnit.vector (BitVec.ofNat 32 ↑n)
                (Scalar.select (Scalar.cmpi CmpIPredicate.eq 128#32 0#32) 1#32 128#32))
              0#32)
            (Scalar.cmpi CmpIPredicate.slt (Scalar.select (Scalar.cmpi CmpIPredicate.eq 128#32 0#32) 1#32 128#32) 0#32))
          (IntOp.cmpi CmpIPredicate.ne
            (IntOp.remsi ArithUnit.vector (BitVec.ofNat 32 ↑n)
              (Scalar.select (Scalar.cmpi CmpIPredicate.eq 128#32 0#32) 1#32 128#32))
            0#32))
        (IntOp.addi
          (IntOp.remsi ArithUnit.vector (BitVec.ofNat 32 ↑n)
            (Scalar.select (Scalar.cmpi CmpIPredicate.eq 128#32 0#32) 1#32 128#32))
          (Scalar.select (Scalar.cmpi CmpIPredicate.eq 128#32 0#32) 1#32 128#32))
        (IntOp.remsi ArithUnit.vector (BitVec.ofNat 32 ↑n)
          (Scalar.select (Scalar.cmpi CmpIPredicate.eq 128#32 0#32) 1#32 128#32))) = BitVec.ofNat 32 (n % 128) := by
    decide +kernel
  rw [hn n]
  exact WordCmp.cmpi_sle_ofNat (by omega) (by omega)

end Cert.Gqa
-- ==== Proof.Block.Chunk.lean ====
module

public import proofs.«01_k».proof.Proof.Block.Layout
public import Idealize.ShloMosaic.Lib.Pointwise.IndexVar
public import Idealize.ShloMosaic.Lib.MatmulPlain

/-!
What one chunk of queries computes against its keys, for any number `w` of keys: the scores, the probabilities, the
score gradients, the query gradient, and the sums for the key and value gradients.
-/

@[expose] public section
set_option maxRecDepth 16384
noncomputable section

namespace Cert.Gqa
open Idealize.ShloMosaic Idealize.SL.Sem Cert.KernelIdeal Cert.KernelIdeal.Gen

variable {φ ψ : FTy} {c : Fin 5} {B : Block} {w : ℕ} {hw : w ≤ 640}

/-- The zero byte is the number zero. -/
theorem fp8_zero : Ideal.ofBits .fp8e4m3 0#8 = 0 := by
  simp [Ideal.ofBits, Ideal.ieee, Ideal.e4m3fn]

/-- The word of -∞ is -∞. -/
theorem neg_inf : Ideal.ofBits .f32 4286578688#32 = ⊥ := by
  simp [Ideal.ofBits, Ideal.ieee]

/-- Scaled scores in binary exponents: keys by queries, the key scale, the query scale and the log-sum-exp. -/
theorem keys_t {kT : FVec Ideal ⟨2, ![w, 128]⟩ .fp8e4m3} {ksr : FVec Ideal ⟨2, ![w, 128]⟩ .f32}
    {q : FVec Ideal S96x512 .fp8e4m3} {qs lse : FVec Ideal S1x512 .f32}
    (hk : ∀ j (d : Fin 96), kT (ix2 j (Fin.castLE (by decide) d)) = B.k d (Fin.castLE hw j))
    (hks : ∀ j r, ksr (ix2 j r) = B.ks (Fin.castLE hw j))
    (hq : Cols B.q c q) (hqs : Row B.qs c qs) (hl : Row (fun x i => B.lse x i * log2e) c lse)
    (hc : Shape.Concatenates [⟨2, ![w, 128]⟩, ⟨2, ![w, 128]⟩, ⟨2, ![w, 128]⟩, ⟨2, ![w, 128]⟩] ⟨2, ![w, 512]⟩ 1)
    (hb : S1x512.Broadcasts ⟨2, ![w, 512]⟩) :
    Keys hw B.t c (subf (mulf (mulf
      (matmul (DotDims.plain w 128 512) none kT
        (concatenate S128x512 0 [⟨S96x512, q⟩, ⟨S32x512, broadcast S32x512 (Scalar.ofBits .fp8e4m3 0x00#8)⟩]
          concatenates_S96x512_S32x512_S128x512_d0) (constant ⟨2, ![w, 512]⟩ .f32 0x00000000#32))
      (concatenate ⟨2, ![w, 512]⟩ 1
        [⟨⟨2, ![w, 128]⟩, ksr⟩, ⟨⟨2, ![w, 128]⟩, ksr⟩, ⟨⟨2, ![w, 128]⟩, ksr⟩, ⟨⟨2, ![w, 128]⟩, ksr⟩] hc))
      (broadcastTo ⟨2, ![w, 512]⟩
        (mulf qs (broadcast S1x512 (Named.named (F := Ideal) κ "sm_log2e" (φ := .f32) 0x3E16C740#32))) hb))
      (broadcastTo ⟨2, ![w, 512]⟩ lse hb)) := by
  intro j n
  pointwise
  simp only [fp8_zero, mul_zero, Finset.sum_const_zero, add_zero, hks, dite_eq_ite, ite_self, hq _ n, hqs n, hl n]
  rw [IdealRules.named_const.ideal_named_scalar _ _ _ _ rfl, Block.t]
  exact congrArg (fun z => z * _ * _ - _) (Finset.sum_congr rfl fun d _ => congrArg (· * _) (hk j d))

/-- The exponents of the keys before the diagonal block stay, those of the diagonal block are masked; the exponential
    of the result is the probability. -/
theorem keys_p {w' : ℕ} (hw' : w' = 128 * c) (hwc : w = w' + 128) {T : FVec Ideal ⟨2, ![w, 512]⟩ .f32} {v : IVec S128x512 1}
    (hT : Keys hw B.t c T) (hv : Mask v)
    (h0 : (⟨2, ![w, 512]⟩ : Shape).Slices ![0, 0] ⟨2, ![w', 512]⟩)
    (h1 : (⟨2, ![w, 512]⟩ : Shape).Slices ![w', 0] S128x512)
    (hc : Shape.Concatenates [⟨2, ![w', 512]⟩, S128x512] ⟨2, ![w, 512]⟩ 0) :
    Keys hw B.p c (exp2 (concatenate ⟨2, ![w, 512]⟩ 0
      [⟨⟨2, ![w', 512]⟩, extractStridedSlice ⟨2, ![w', 512]⟩ ![0, 0] T h0⟩,
        ⟨S128x512, select v (extractStridedSlice S128x512 ![w', 0] T h1)
          (broadcast S128x512 (Scalar.ofBits .f32 0xFF800000#32))⟩] hc)) := by
  intro j n
  pointwise
  rw [neg_inf, Block.p]
  have hj := j.isLt
  have hn := n.isLt
  by_cases h : (j : ℕ) < w'
  · rw [dif_pos h, hT j n, if_pos (by simp only [Fin.le_def, pos, Fin.val_castLE]; omega)]
    rfl
  · have hj' : w' + ((j : ℕ) - w') = j := by omega
    rw [dif_neg h, hv, WordCmp.select_ofBool]
    simp only [hj', Fin.eta, hT j n, decide_eq_true_eq]
    by_cases hm : (j : ℕ) - w' ≤ n % 128
    · rw [if_pos hm, if_pos (by simp only [Fin.le_def, pos, Fin.val_castLE]; omega)]
      rfl
    · rw [if_neg hm, if_neg (by simp only [Fin.le_def, pos, Fin.val_castLE]; omega)]
      exact Ideal.exp2_bot

/-- The same for the first chunk, whose only block is the diagonal one. -/
theorem keys_p_first {hw : 128 ≤ 640} {T : FVec Ideal S128x512 .f32} {v : IVec S128x512 1}
    (hT : Keys hw B.t 0 T) (hv : Mask v) :
    Keys hw B.p 0 (exp2 (select v T (broadcast S128x512 (Scalar.ofBits .f32 0xFF800000#32)))) := by
  intro j n
  pointwise
  rw [neg_inf, Block.p, hv, WordCmp.select_ofBool, hT j n]
  simp only [decide_eq_true_eq]
  by_cases hm : (j : ℕ) ≤ n % 128
  · rw [if_pos hm, if_pos (by simp only [Fin.le_def, pos, Fin.val_castLE]; simpa using hm)]
    rfl
  · rw [if_neg hm, if_neg (by simp only [Fin.le_def, pos, Fin.val_castLE]; simpa using hm)]
    exact Ideal.exp2_bot

/-- The gradients of the scores. -/
theorem keys_g {P : FVec Ideal ⟨2, ![w, 512]⟩ .f32} {vT : FVec Ideal ⟨2, ![w, 128]⟩ .bf16}
    {dw : FVec Ideal S96x512 .bf16} {delta : FVec Ideal S1x512 .f32}
    (hP : Keys hw B.p c P)
    (hv : ∀ j (d : Fin 96), vT (ix2 j (Fin.castLE (by decide) d)) = B.vw d (Fin.castLE hw j))
    (hdw : Cols B.dw c dw) (hdelta : Row B.delta c delta)
    (hb : S1x512.Broadcasts ⟨2, ![w, 512]⟩) :
    Keys hw B.g c (mulf P (subf
      (matmul (DotDims.plain w 128 512) none vT
        (concatenate S128x512 0 [⟨S96x512, dw⟩, ⟨S32x512, broadcast S32x512 (Scalar.ofBits .bf16 0x0000#16)⟩]
          concatenates_S96x512_S32x512_S128x512_d0) (constant ⟨2, ![w, 512]⟩ .f32 0x00000000#32))
      (broadcastTo ⟨2, ![w, 512]⟩ delta hb))) := by
  intro j n
  pointwise
  simp only [mul_zero, Finset.sum_const_zero, add_zero, hP j n, hdw _ n, hdelta n]
  exact congrArg (fun z => _ * (z - _)) (Finset.sum_congr rfl fun d _ => congrArg (· * _) (hv j d))

/-- The gradient of the queries of a chunk. -/
theorem cols_dq {G : FVec Ideal ⟨2, ![w, 512]⟩ .bf16} {kw : FVec Ideal ⟨2, ![96, w]⟩ .bf16} (hwc : w = 128 * (c + 1))
    (hG : Keys hw B.g c G) (hk : ∀ d j, kw (ix2 d j) = B.kw d (Fin.castLE hw j)) :
    Cols B.dq c (mulf (matmul (DotDims.plain 96 w 512) none kw G (constant S96x512 .f32 0x00000000#32))
      (broadcast S96x512 (Named.named (F := Ideal) κ "sm" (φ := .f32) 0x3DD105EC#32))) := by
  intro d n
  refine Eq.trans ?_ (Block.dq_pos B hw c hwc d n)
  change (matmul (DotDims.plain 96 w 512) none kw G (constant S96x512 .f32 0x00000000#32) (ix2 d n) : EReal)
    * Named.named (F := Ideal) κ "sm" (φ := .f32) 0x3DD105EC#32 = _
  rw [IdealRules.named_const.ideal_named_scalar _ _ _ _ rfl]
  refine congrArg (· * sm) ((Ideal.matmul_plain_apply _ _ _ _ d n).trans ?_)
  pointwise
  exact Finset.sum_congr rfl fun j _ => congrArg₂ (· * ·) (hk d j) (hG j n)

/-- A chunk's part of a key or value gradient. -/
def part (Q : Fin 4 → Fin 96 → Fin 640 → EReal) (F : Fin 4 → Fin 640 → Fin 640 → EReal) (c : Fin 5) (d : Fin 96)
    (j : Fin 640) : EReal := ∑ n, Q (hd n) d (pos c n) * F (hd n) (pos c n) j

/-- The sums of the parts from chunk `c` on, for the first `w` keys. -/
def Acc {w : ℕ} (hw : w ≤ 640) (Q : Fin 4 → Fin 96 → Fin 640 → EReal) (F : Fin 4 → Fin 640 → Fin 640 → EReal) (c : Fin 5)
    (T : (⟨2, ![96, w]⟩ : Shape).Idx → EReal) : Prop :=
  ∀ d j, T (ix2 d j) = tail (fun b => part Q F b d (Fin.castLE hw j)) c

variable {Q : Fin 4 → Fin 96 → Fin 640 → EReal} {F : Fin 4 → Fin 640 → Fin 640 → EReal}

/-- A chunk's part, as the product the kernel takes. -/
theorem part_matmul {A : FVec Ideal S96x512 .bf16} {G : FVec Ideal ⟨2, ![w, 512]⟩ .bf16} (hA : Cols Q c A)
    (hG : Keys hw F c G) (d : Fin 96) (j : Fin w) :
    matmul (DotDims.transposedRhs 96 512 w) none A G (constant ⟨2, ![96, w]⟩ .f32 0x00000000#32) (ix2 d j)
      = part Q F c d (Fin.castLE hw j) := by
  pointwise
  exact Finset.sum_congr rfl fun n _ => congrArg₂ (· * ·) (hA d n) (hG j n)

/-- The last chunk starts the sums. -/
theorem acc_last {A : FVec Ideal S96x512 .bf16} {G : FVec Ideal ⟨2, ![w, 512]⟩ .bf16} (hA : Cols Q 4 A)
    (hG : Keys hw F 4 G) :
    Acc hw Q F 4 (matmul (DotDims.transposedRhs 96 512 w) none A G (constant ⟨2, ![96, w]⟩ .f32 0x00000000#32)) :=
  fun d j => (part_matmul hA hG d j).trans (tail_last fun b => part Q F b d (Fin.castLE hw j)).symm

/-- Each earlier chunk adds its part. -/
theorem acc_next {c' : Fin 5} (h : (c' : ℕ) = c + 1) {A : FVec Ideal S96x512 .bf16} {G : FVec Ideal ⟨2, ![w, 512]⟩ .bf16}
    {T : FVec Ideal ⟨2, ![96, w]⟩ .f32} (hA : Cols Q c A) (hG : Keys hw F c G) (hT : Acc hw Q F c' T) :
    Acc hw Q F c (addf
      (matmul (DotDims.transposedRhs 96 512 w) none A G (constant ⟨2, ![96, w]⟩ .f32 0x00000000#32)) T) :=
  fun d j => (congrArg₂ (fun a b : EReal => a + b) (part_matmul hA hG d j) (hT d j)).trans
    (tail_step (fun b => part Q F b d (Fin.castLE hw j)) c c' h).symm

/-- The sums of the keys before the diagonal block are kept for the next chunk. -/
theorem acc_save {w' : ℕ} {hw' : w' ≤ 640} (hle : w' ≤ w) {T : FVec Ideal ⟨2, ![96, w]⟩ .f32} (hT : Acc hw Q F c T)
    (h : (⟨2, ![96, w]⟩ : Shape).Slices ![0, 0] ⟨2, ![96, w']⟩)
    (hs : (⟨2, ![96, w']⟩ : Shape).ShapeCasts ⟨2, ![96, w']⟩) :
    Acc hw' Q F c (shapeCast ⟨2, ![96, w']⟩ (extractStridedSlice ⟨2, ![96, w']⟩ ![0, 0] T h) hs) := by
  intro d j
  pointwise
  exact hT d _

/-- The sums at the keys of the diagonal block are complete: the stored block of the value gradient. -/
theorem dv_piece {w' : ℕ} (hw' : w' = 128 * c) (hle : w' + 128 ≤ w) {T : FVec Ideal ⟨2, ![96, w]⟩ .f32}
    (hT : Acc hw B.dw B.p c T) (h : (⟨2, ![96, w]⟩ : Shape).Slices ![0, w'] S96x128) (y : S1x1x96x128.Idx) :
    shapeCast S1x1x96x128 (truncf .bf16 (extractStridedSlice S96x128 ![0, w'] T h) bitsLt_bf16_f32)
      shapeCasts_S96x128_S1x1x96x128 y = B.dv (y 2) (row c (y 3)) := by
  idx_vars y
  pointwise
  rw [hT _ _, ← B.dv_row c _ _]
  refine congrArg (fun j => tail (fun b => B.dvPart b _ j) c) (Fin.ext ?_)
  simp [row, hw']

/-- The same for the first chunk, whose sums are those of the diagonal block. -/
theorem dv_piece_first {hw : 128 ≤ 640} {T : FVec Ideal S96x128 .f32} (hT : Acc hw B.dw B.p 0 T) (y : S1x1x96x128.Idx) :
    shapeCast S1x1x96x128 (truncf .bf16 T bitsLt_bf16_f32) shapeCasts_S96x128_S1x1x96x128 y
      = B.dv (y 2) (row 0 (y 3)) := by
  idx_vars y
  pointwise
  rw [hT _ _, ← B.dv_row 0 _ _]
  refine congrArg (fun j => tail (fun b => B.dvPart b _ j) 0) (Fin.ext ?_)
  simp [row]

/-- The stored block of the key gradient: the complete sums, scaled. -/
theorem dk_piece {w' : ℕ} (hw' : w' = 128 * c) (hle : w' + 128 ≤ w) {T : FVec Ideal ⟨2, ![96, w]⟩ .f32}
    (hT : Acc hw B.qw B.g c T) (h : (⟨2, ![96, w]⟩ : Shape).Slices ![0, w'] S96x128) (y : S1x1x96x128.Idx) :
    shapeCast S1x1x96x128 (truncf .bf16 (mulf (extractStridedSlice S96x128 ![0, w'] T h)
      (broadcast S96x128 (Named.named (F := Ideal) κ "sm" (φ := .f32) 0x3DD105EC#32))) bitsLt_bf16_f32)
      shapeCasts_S96x128_S1x1x96x128 y = B.dk (y 2) (row c (y 3)) := by
  idx_vars y
  pointwise
  rw [hT _ _, IdealRules.named_const.ideal_named_scalar _ _ _ _ rfl, ← B.dk_row c _ _]
  refine congrArg (fun j => tail (fun b => B.dkPart b _ j) c * sm) (Fin.ext ?_)
  simp [row, hw']

/-- The same for the first chunk. -/
theorem dk_piece_first {hw : 128 ≤ 640} {T : FVec Ideal S96x128 .f32} (hT : Acc hw B.qw B.g 0 T) (y : S1x1x96x128.Idx) :
    shapeCast S1x1x96x128 (truncf .bf16 (mulf T
      (broadcast S96x128 (Named.named (F := Ideal) κ "sm" (φ := .f32) 0x3DD105EC#32))) bitsLt_bf16_f32)
      shapeCasts_S96x128_S1x1x96x128 y = B.dk (y 2) (row 0 (y 3)) := by
  idx_vars y
  pointwise
  rw [hT _ _, IdealRules.named_const.ideal_named_scalar _ _ _ _ rfl, ← B.dk_row 0 _ _]
  refine congrArg (fun j => tail (fun b => B.dkPart b _ j) 0 * sm) (Fin.ext ?_)
  simp [row]

end Cert.Gqa
-- ==== Proof.Block.Tensors.lean ====
module

public import proofs.«01_k».proof.Proof.Block.Chunk

/-!
The arrays of one chunk of queries, written once for every chunk: `o` is the chunk's first position, `w` the number of
keys it attends to, and `X0 … X9` are the blocks the kernel reads (queries, output gradients, outputs, keys, values,
query scales, key scales, value scales, output-gradient scales, log-sum-exps).
-/

@[expose] public section
set_option maxRecDepth 16384
noncomputable section

namespace Cert.Gqa
open Idealize.ShloMosaic Idealize.SL.Sem Cert.KernelIdeal Cert.KernelIdeal.Gen

variable {φ : FTy}

/-- What the blocks the kernel reads hold. -/
structure Reads (B : Block) (X0 : FVec Ideal S1x4x96x640 .fp8e4m3) (X1 : FVec Ideal S1x4x96x640 .fp8e5m2)
    (X2 : FVec Ideal S1x4x96x640 .bf16) (X3 X4 : FVec Ideal S1x1x96x640 .fp8e4m3) (X5 : FVec Ideal S1x1x4x640 .f32)
    (X6 X7 X8 : FVec Ideal S1x1x640 .f32) (X9 : FVec Ideal S1x1x4x640 .f32) : Prop where
  q : ∀ x d i, X0 (ix4 0 x d i) = B.q x d i
  dO : ∀ x d i, X1 (ix4 0 x d i) = B.dO x d i
  o : ∀ x d i, X2 (ix4 0 x d i) = B.o x d i
  k : ∀ d j, X3 (ix4 0 0 d j) = B.k d j
  v : ∀ d j, X4 (ix4 0 0 d j) = B.v d j
  qs : ∀ x i, X5 (ix4 0 0 x i) = B.qs x i
  ks : ∀ j, X6 (ix3 0 0 j) = B.ks j
  vs : ∀ j, X7 (ix3 0 0 j) = B.vs j
  ds : ∀ i, X8 (ix3 0 0 i) = B.ds i
  lse : ∀ x i, X9 (ix4 0 0 x i) = B.lse x i

/-! ## The positions from `o` on of the four heads, side by side -/

theorem inb_heads {x o : ℕ} (hx : x < 4) (ho : o + 128 ≤ 640) :
    ∀ a, (![0, x, 0, o] : Fin 4 → ℕ) a + (![1, 1, 96, 128] : Fin 4 → ℕ) a ≤ S1x4x96x640.size a := by
  intro a; fin_cases a <;> simp <;> omega
theorem inb_rows {x o : ℕ} (hx : x < 4) (ho : o + 128 ≤ 640) :
    ∀ a, (![0, 0, x, o] : Fin 4 → ℕ) a + (![1, 1, 1, 128] : Fin 4 → ℕ) a ≤ S1x1x4x640.size a := by
  intro a; fin_cases a <;> simp <;> omega
theorem inb_row {o : ℕ} (ho : o + 128 ≤ 640) :
    ∀ a, (![0, 0, o] : Fin 3 → ℕ) a + (![1, 1, 128] : Fin 3 → ℕ) a ≤ S1x1x640.size a := by
  intro a; fin_cases a <;> simp <;> omega

/-- Head `x` of a block of channels by positions. -/
def head (X : FVec Ideal S1x4x96x640 φ) (x o : ℕ) (hx : x < 4) (ho : o + 128 ≤ 640) : FVec Ideal S96x128 φ :=
  shapeCast S96x128 (fun y : S1x1x96x128.Idx => X ((Rect.unit (s := S1x4x96x640) ![0, x, 0, o] ![1, 1, 96, 128]
    (inb_heads hx ho)).idx y)) shapeCasts_S1x1x96x128_S96x128
/-- The four heads. -/
def heads (X : FVec Ideal S1x4x96x640 φ) (o : ℕ) (ho : o + 128 ≤ 640) : FVec Ideal S96x512 φ :=
  concatenate S96x512 1 [⟨S96x128, head X 0 o (by decide) ho⟩, ⟨S96x128, head X 1 o (by decide) ho⟩,
    ⟨S96x128, head X 2 o (by decide) ho⟩, ⟨S96x128, head X 3 o (by decide) ho⟩]
    concatenates_S96x128_S96x128_S96x128_S96x128_S96x512_d1
/-- Head `x` of a block of rows. -/
def rowOf (X : FVec Ideal S1x1x4x640 φ) (x o : ℕ) (hx : x < 4) (ho : o + 128 ≤ 640) : FVec Ideal S1x128 φ :=
  shapeCast S1x128 (fun y : S1x1x1x128.Idx => X ((Rect.unit (s := S1x1x4x640) ![0, 0, x, o] ![1, 1, 1, 128]
    (inb_rows hx ho)).idx y)) shapeCasts_S1x1x1x128_S1x128
/-- The four rows. -/
def rows (X : FVec Ideal S1x1x4x640 φ) (o : ℕ) (ho : o + 128 ≤ 640) : FVec Ideal S1x512 φ :=
  concatenate S1x512 1 [⟨S1x128, rowOf X 0 o (by decide) ho⟩, ⟨S1x128, rowOf X 1 o (by decide) ho⟩,
    ⟨S1x128, rowOf X 2 o (by decide) ho⟩, ⟨S1x128, rowOf X 3 o (by decide) ho⟩]
    concatenates_S1x128_S1x128_S1x128_S1x128_S1x512_d1
/-- One row for the four heads. -/
def row4 (X : FVec Ideal S1x1x640 φ) (o : ℕ) (ho : o + 128 ≤ 640) : FVec Ideal S1x512 φ :=
  let r : FVec Ideal S1x128 φ := shapeCast S1x128 (fun y : S1x1x128.Idx => X ((Rect.unit (s := S1x1x640) ![0, 0, o]
    ![1, 1, 128] (inb_row ho)).idx y)) shapeCasts_S1x1x128_S1x128
  concatenate S1x512 1 [⟨S1x128, r⟩, ⟨S1x128, r⟩, ⟨S1x128, r⟩, ⟨S1x128, r⟩]
    concatenates_S1x128_S1x128_S1x128_S1x128_S1x512_d1

/-- Columns times a row of scales. -/
def scaled (T : FVec Ideal S96x512 φ) (U : FVec Ideal S1x512 .f32) (h : φ.bits < FTy.bf16.bits) : FVec Ideal S96x512 .bf16 :=
  mulf (extf .bf16 T h) (broadcastTo S96x512 (truncf .bf16 U bitsLt_bf16_f32) broadcasts_S1x512_S96x512)

variable {c : Fin 5} {B : Block} {o : ℕ} {ho : o + 128 ≤ 640}

theorem cols_heads {Q : Fin 4 → Fin 96 → Fin 640 → EReal} {X : FVec Ideal S1x4x96x640 φ}
    (hX : ∀ x d i, X (ix4 0 x d i) = Q x d i) (hc : o = 128 * c) : Cols Q c (heads X o ho) := by
  refine cols_concat ⟨?_, ?_, ?_, ?_⟩ <;> intro d r <;> pointwise <;> rw [hX] <;>
    exact congrArg (Q _ d) (Fin.ext (by simp [row, hc]))

theorem row_rows {Q : Fin 4 → Fin 640 → EReal} {X : FVec Ideal S1x1x4x640 φ}
    (hX : ∀ x i, X (ix4 0 0 x i) = Q x i) (hc : o = 128 * c) : Row Q c (rows X o ho) := by
  refine row_concat ⟨?_, ?_, ?_, ?_⟩ <;> intro r <;> pointwise <;> rw [hX] <;>
    exact congrArg (Q _) (Fin.ext (by simp [row, hc]))

theorem row_row4 {R : Fin 640 → EReal} {X : FVec Ideal S1x1x640 φ}
    (hX : ∀ i, X (ix3 0 0 i) = R i) (hc : o = 128 * c) : Row (fun _ i => R i) c (row4 X o ho) := by
  refine row_same ?_ ; intro r ; pointwise ; rw [hX]
  exact congrArg R (Fin.ext (by simp [row, hc]))

/-! ## Keys and values as the kernel keeps them -/

theorem inb_first {w : ℕ} (hw : w ≤ 640) :
    ∀ a, (![0, 0] : Fin 2 → ℕ) a + (![w, 128] : Fin 2 → ℕ) a ≤ S640x128.size a := by
  intro a; fin_cases a <;> simp <;> omega
theorem inb_firstCols {w : ℕ} (hw : w ≤ 640) :
    ∀ a, (![0, 0] : Fin 2 → ℕ) a + (![96, w] : Fin 2 → ℕ) a ≤ S96x640.size a := by
  intro a; fin_cases a <;> simp <;> omega

/-- The whole of a block of keys or values. -/
def whole (X : FVec Ideal S1x1x96x640 φ) : FVec Ideal S1x1x96x640 φ :=
  fun y : S1x1x96x640.Idx => X ((Rect.unit (s := S1x1x96x640) ![0, 0, 0, 0] ![1, 1, 96, 640]
    inb_S1x1x96x640_S1x1x96x640_0_0_0_0).idx y)
/-- The first `w` of 640 rows. -/
def first (T : FVec Ideal S640x128 φ) (w : ℕ) (hw : w ≤ 640) : FVec Ideal ⟨2, ![w, 128]⟩ φ :=
  fun y : Shape.Idx ⟨2, ![w, 128]⟩ => T ((Rect.unit (s := S640x128) ![0, 0] ![w, 128] (inb_first hw)).idx y)
/-- The first `w` of 640 columns. -/
def firstCols (T : FVec Ideal S96x640 φ) (w : ℕ) (hw : w ≤ 640) : FVec Ideal ⟨2, ![96, w]⟩ φ :=
  fun y : Shape.Idx ⟨2, ![96, w]⟩ => T ((Rect.unit (s := S96x640) ![0, 0] ![96, w] (inb_firstCols hw)).idx y)

/-- Rows are the first keys, columns the channels: the channels of `F`. -/
def ByKey {w : ℕ} (hw : w ≤ 640) (F : Fin 96 → Fin 640 → EReal) (T : (⟨2, ![w, 128]⟩ : Shape).Idx → EReal) : Prop :=
  ∀ j (d : Fin 96), T (ix2 j (Fin.castLE (by decide) d)) = F d (Fin.castLE hw j)
/-- Rows are the first keys, every column the same. -/
def SameByKey {w : ℕ} (hw : w ≤ 640) (F : Fin 640 → EReal) (T : (⟨2, ![w, 128]⟩ : Shape).Idx → EReal) : Prop :=
  ∀ j r, T (ix2 j r) = F (Fin.castLE hw j)
/-- Rows are the channels, columns the first keys. -/
def ByChannel {w : ℕ} (hw : w ≤ 640) (F : Fin 96 → Fin 640 → EReal) (T : (⟨2, ![96, w]⟩ : Shape).Idx → EReal) : Prop :=
  ∀ d j, T (ix2 d j) = F d (Fin.castLE hw j)

variable {w : ℕ} {hw : w ≤ 640}

theorem byKey_first {F : Fin 96 → Fin 640 → EReal} {T : FVec Ideal S640x128 φ} (h : ByKey le_rfl F T) :
    ByKey hw F (first T w hw) := by
  intro j d
  refine Eq.trans (congrArg T (funext fun a => ?_)) (h (Fin.castLE hw j) d)
  fin_cases a <;> exact Fin.ext (by simp)

theorem sameByKey_first {F : Fin 640 → EReal} {T : FVec Ideal S640x128 φ} (h : SameByKey le_rfl F T) :
    SameByKey hw F (first T w hw) := by
  intro j r
  refine Eq.trans (congrArg T (funext fun a => ?_)) (h (Fin.castLE hw j) r)
  fin_cases a <;> exact Fin.ext (by simp)

theorem byChannel_first {F : Fin 96 → Fin 640 → EReal} {T : FVec Ideal S96x640 φ} (h : ByChannel le_rfl F T) :
    ByChannel hw F (firstCols T w hw) := by
  intro d j
  refine Eq.trans (congrArg T (funext fun a => ?_)) (h d (Fin.castLE hw j))
  fin_cases a <;> exact Fin.ext (by simp)

theorem whole_apply {F : Fin 96 → Fin 640 → EReal} {X : FVec Ideal S1x1x96x640 φ} (h : ∀ d j, X (ix4 0 0 d j) = F d j)
    (d : Fin 96) (j : Fin 640) : whole X (ix4 0 0 d j) = F d j := by
  refine Eq.trans (congrArg X (funext fun a => ?_)) (h d j)
  fin_cases a <;> exact Fin.ext (by simp)

/-- The whole of a block of scales. -/
def wholeRow (X : FVec Ideal S1x1x640 φ) : FVec Ideal S1x1x640 φ :=
  fun y : S1x1x640.Idx => X ((Rect.unit (s := S1x1x640) ![0, 0, 0] ![1, 1, 640] inb_S1x1x640_S1x1x640_0_0_0).idx y)

theorem wholeRow_apply {R : Fin 640 → EReal} {X : FVec Ideal S1x1x640 φ} (h : ∀ j, X (ix3 0 0 j) = R j) (j : Fin 640) :
    wholeRow X (ix3 0 0 j) = R j := by
  refine Eq.trans (congrArg X (funext fun a => ?_)) (h j)
  fin_cases a <;> exact Fin.ext (by simp)

theorem byKey_k {F : Fin 96 → Fin 640 → EReal} {X : FVec Ideal S1x1x96x640 .fp8e4m3}
    (h : ∀ d j, X (ix4 0 0 d j) = F d j) : ByKey le_rfl F (k0_pay5 (F := Ideal) (whole X)) := by
  intro j d
  pointwise [k0_pay5, k0_pay4]
  exact (dif_pos d.isLt).trans (whole_apply h d j)

theorem byKey_v {F : Fin 96 → Fin 640 → EReal} {R : Fin 640 → EReal} {X : FVec Ideal S1x1x96x640 .fp8e4m3}
    {Y : FVec Ideal S1x1x640 .f32} (h : ∀ d j, X (ix4 0 0 d j) = F d j) (hY : ∀ j, Y (ix3 0 0 j) = R j) :
    ByKey le_rfl (fun d j => F d j * R j) (k0_pay7 (F := Ideal) (whole X) (wholeRow Y)) := by
  intro j d
  pointwise [k0_pay7]
  exact (dif_pos d.isLt).trans (congrArg₂ (· * ·) (whole_apply h d j) (wholeRow_apply hY j))

theorem byChannel_k {F : Fin 96 → Fin 640 → EReal} {R : Fin 640 → EReal} {X : FVec Ideal S1x1x96x640 .fp8e4m3}
    {Y : FVec Ideal S1x1x640 .f32} (h : ∀ d j, X (ix4 0 0 d j) = F d j) (hY : ∀ j, Y (ix3 0 0 j) = R j) :
    ByChannel le_rfl (fun d j => F d j * R j) (k0_pay6 (F := Ideal) Y X) := by
  intro d j
  pointwise [k0_pay6, k0_pay4, k0_pay3]
  exact congrArg₂ (· * ·) (h d j) (hY j)

theorem sameByKey_k {R : Fin 640 → EReal} {Y : FVec Ideal S1x1x640 .f32} (hY : ∀ j, Y (ix3 0 0 j) = R j) :
    SameByKey le_rfl R (k0_pay9 (F := Ideal) (k0_pay8 Y)) := by
  intro j r
  pointwise [k0_pay9, k0_pay8, k0_pay3]
  exact hY j

/-! ## Scores, probabilities and their gradients -/

/-- The binary exponents of the first `w` keys. -/
def scores (kT : FVec Ideal ⟨2, ![w, 128]⟩ .fp8e4m3) (ksr : FVec Ideal ⟨2, ![w, 128]⟩ .f32)
    (X0 : FVec Ideal S1x4x96x640 .fp8e4m3) (X5 X9 : FVec Ideal S1x1x4x640 .f32) (o : ℕ) (ho : o + 128 ≤ 640)
    (hc : Shape.Concatenates [⟨2, ![w, 128]⟩, ⟨2, ![w, 128]⟩, ⟨2, ![w, 128]⟩, ⟨2, ![w, 128]⟩] ⟨2, ![w, 512]⟩ 1)
    (hb : S1x512.Broadcasts ⟨2, ![w, 512]⟩) : FVec Ideal ⟨2, ![w, 512]⟩ .f32 :=
  subf (mulf (mulf
      (matmul (DotDims.plain w 128 512) none kT
        (concatenate S128x512 0 [⟨S96x512, heads X0 o ho⟩, ⟨S32x512, broadcast S32x512 (Scalar.ofBits .fp8e4m3 0x00#8)⟩]
          concatenates_S96x512_S32x512_S128x512_d0) (constant ⟨2, ![w, 512]⟩ .f32 0x00000000#32))
      (concatenate ⟨2, ![w, 512]⟩ 1
        [⟨⟨2, ![w, 128]⟩, ksr⟩, ⟨⟨2, ![w, 128]⟩, ksr⟩, ⟨⟨2, ![w, 128]⟩, ksr⟩, ⟨⟨2, ![w, 128]⟩, ksr⟩] hc))
      (broadcastTo ⟨2, ![w, 512]⟩
        (mulf (rows X5 o ho) (broadcast S1x512 (Named.named (F := Ideal) κ "sm_log2e" (φ := .f32) 0x3E16C740#32))) hb))
      (broadcastTo ⟨2, ![w, 512]⟩
        (mulf (rows X9 o ho) (broadcast S1x512 (Named.named (F := Ideal) κ "log2e" (φ := .f32) 0x3FB8AA3B#32))) hb)

/-- The probabilities of the first `w` keys, the last 128 of them masked. -/
def probs {w' : ℕ} (T : FVec Ideal ⟨2, ![w, 512]⟩ .f32) (h0 : (⟨2, ![w, 512]⟩ : Shape).Slices ![0, 0] ⟨2, ![w', 512]⟩)
    (h1 : (⟨2, ![w, 512]⟩ : Shape).Slices ![w', 0] S128x512)
    (hc : Shape.Concatenates [⟨2, ![w', 512]⟩, S128x512] ⟨2, ![w, 512]⟩ 0) : FVec Ideal ⟨2, ![w, 512]⟩ .f32 :=
  exp2 (concatenate ⟨2, ![w, 512]⟩ 0 [⟨⟨2, ![w', 512]⟩, extractStridedSlice ⟨2, ![w', 512]⟩ ![0, 0] T h0⟩,
    ⟨S128x512, select k0_pay10 (extractStridedSlice S128x512 ![w', 0] T h1)
      (broadcast S128x512 (Scalar.ofBits .f32 0xFF800000#32))⟩] hc)

/-- The probabilities of the first chunk. -/
def probsFirst (T : FVec Ideal S128x512 .f32) : FVec Ideal S128x512 .f32 :=
  exp2 (select k0_pay10 T (broadcast S128x512 (Scalar.ofBits .f32 0xFF800000#32)))

/-- The scaled output gradients of a chunk. -/
abbrev grads (X1 : FVec Ideal S1x4x96x640 .fp8e5m2) (X8 : FVec Ideal S1x1x640 .f32) (o : ℕ) (ho : o + 128 ≤ 640) :
    FVec Ideal S96x512 .bf16 := scaled (heads X1 o ho) (row4 X8 o ho) bitsLt_fp8e5m2_bf16
/-- The scaled queries of a chunk. -/
abbrev queries (X0 : FVec Ideal S1x4x96x640 .fp8e4m3) (X5 : FVec Ideal S1x1x4x640 .f32) (o : ℕ) (ho : o + 128 ≤ 640) :
    FVec Ideal S96x512 .bf16 := scaled (heads X0 o ho) (rows X5 o ho) bitsLt_fp8e4m3_bf16

/-- The gradients of the scores of the first `w` keys. -/
def scoreGrads (P : FVec Ideal ⟨2, ![w, 512]⟩ .f32) (vT : FVec Ideal ⟨2, ![w, 128]⟩ .bf16)
    (X1 : FVec Ideal S1x4x96x640 .fp8e5m2) (X2 : FVec Ideal S1x4x96x640 .bf16) (X8 : FVec Ideal S1x1x640 .f32) (o : ℕ)
    (ho : o + 128 ≤ 640) (hb : S1x512.Broadcasts ⟨2, ![w, 512]⟩) : FVec Ideal ⟨2, ![w, 512]⟩ .f32 :=
  mulf P (subf
    (matmul (DotDims.plain w 128 512) none vT
      (concatenate S128x512 0 [⟨S96x512, grads X1 X8 o ho⟩,
        ⟨S32x512, broadcast S32x512 (Scalar.ofBits .bf16 0x0000#16)⟩]
        concatenates_S96x512_S32x512_S128x512_d0) (constant ⟨2, ![w, 512]⟩ .f32 0x00000000#32))
    (broadcastTo ⟨2, ![w, 512]⟩
      (shapeCast S1x512 (multiReduction .add [0] S512 (mulf (extf .f32 (grads X1 X8 o ho) bitsLt_bf16_f32)
        (extf .f32 (heads X2 o ho) bitsLt_bf16_f32)) 0x00000000#32 reduces_S96x512_S512 (.inl rfl) rfl)
        shapeCasts_S512_S1x512) hb))

section
variable {X0 : FVec Ideal S1x4x96x640 .fp8e4m3} {X1 : FVec Ideal S1x4x96x640 .fp8e5m2}
    {X2 : FVec Ideal S1x4x96x640 .bf16} {X3 X4 : FVec Ideal S1x1x96x640 .fp8e4m3} {X5 : FVec Ideal S1x1x4x640 .f32}
    {X6 X7 X8 : FVec Ideal S1x1x640 .f32} {X9 : FVec Ideal S1x1x4x640 .f32}
    (R : Reads B X0 X1 X2 X3 X4 X5 X6 X7 X8 X9)
include R

theorem Reads.grads (hc : o = 128 * c) : Cols B.dw c (grads X1 X8 o ho) :=
  cols_scaled (cols_heads R.dO hc) (row_row4 R.ds hc) _

theorem Reads.queries (hc : o = 128 * c) : Cols B.qw c (queries X0 X5 o ho) :=
  cols_scaled (cols_heads R.q hc) (row_rows R.qs hc) _

theorem Reads.scores (hc : o = 128 * c) {kT : FVec Ideal ⟨2, ![w, 128]⟩ .fp8e4m3} {ksr : FVec Ideal ⟨2, ![w, 128]⟩ .f32}
    (hk : ByKey hw B.k kT) (hks : SameByKey hw B.ks ksr) (h1) (h2) :
    Keys hw B.t c (scores kT ksr X0 X5 X9 o ho h1 h2) :=
  keys_t hk hks (cols_heads R.q hc) (row_rows R.qs hc) (row_log2e (row_rows R.lse hc)) _ _

omit R in
theorem keys_probs {w' : ℕ} (hw' : w' = 128 * c) (hwc : w = w' + 128) {T : FVec Ideal ⟨2, ![w, 512]⟩ .f32}
    (hT : Keys hw B.t c T) (h0) (h1) (hc) : Keys hw B.p c (probs (w' := w') T h0 h1 hc) :=
  keys_p hw' hwc hT mask h0 h1 hc

omit R in
theorem keys_probsFirst {hw : 128 ≤ 640} {T : FVec Ideal S128x512 .f32} (hT : Keys hw B.t 0 T) :
    Keys hw B.p 0 (probsFirst T) := keys_p_first hT mask

/-- The probabilities of a chunk after the first. -/
theorem Reads.probs (hc : o = 128 * c) (hwc : w = o + 128) {kT : FVec Ideal ⟨2, ![w, 128]⟩ .fp8e4m3}
    {ksr : FVec Ideal ⟨2, ![w, 128]⟩ .f32} (hk : ByKey hw B.k kT) (hks : SameByKey hw B.ks ksr) (h1) (h2) (h3) (h4) (h5) :
    Keys hw B.p c (probs (w' := o) (Gqa.scores kT ksr X0 X5 X9 o ho h1 h2) h3 h4 h5) :=
  keys_p hc hwc (R.scores hc hk hks h1 h2) mask h3 h4 h5

/-- The probabilities of the first chunk. -/
theorem Reads.probsFirst {hw : 128 ≤ 640} {kT : FVec Ideal S128x128 .fp8e4m3}
    {ksr : FVec Ideal S128x128 .f32} (hk : ByKey hw B.k kT) (hks : SameByKey hw B.ks ksr) (h1) (h2) :
    Keys hw B.p 0 (probsFirst (Gqa.scores kT ksr X0 X5 X9 0 (by decide) h1 h2)) :=
  keys_p_first (R.scores rfl hk hks h1 h2) mask

/-- The gradients of the scores of a chunk. -/
theorem Reads.scoreGrads (hc : o = 128 * c) {P : FVec Ideal ⟨2, ![w, 512]⟩ .f32} {vT : FVec Ideal ⟨2, ![w, 128]⟩ .bf16}
    (hP : Keys hw B.p c P) (hv : ByKey hw B.vw vT) (h) : Keys hw B.g c (scoreGrads P vT X1 X2 X8 o ho h) :=
  keys_g hP hv (R.grads hc) (row_dot (R.grads hc) (cols_heads R.o hc)) _

end

/-- A rounding is the identity on the extended reals. -/
theorem keys_trunc {F : Fin 4 → Fin 640 → Fin 640 → EReal} {T : FVec Ideal ⟨2, ![w, 512]⟩ .f32} (hT : Keys hw F c T) :
    Keys hw F c (truncf .bf16 T bitsLt_bf16_f32 : FVec Ideal ⟨2, ![w, 512]⟩ .bf16) :=
  fun j n => hT j n

end Cert.Gqa
-- ==== Proof.Math.Args.lean ====
module

public import proofs.«01_k».proof.Proof.Math.Model
public import Idealize.ShloMosaic.PureOps.Ideal
public import Idealize.ShloMosaic.Lib.Pointwise

/-!
The ten arguments as arrays of extended reals, the part one batch entry and one key/value head read, and the three
gradients as whole arrays.
-/

@[expose] public section
noncomputable section

namespace Cert.Gqa
open Idealize.ShloMosaic

/-- Query head `x` of the four that share key/value head `g`. -/
def headOf (g : Fin 8) (x : Fin 4) : Fin 32 := ⟨4 * g + x, by omega⟩
/-- The key/value head of a query head. -/
def grpOf (h : Fin 32) : Fin 8 := ⟨h / 4, by omega⟩
/-- The place of a query head among the four. -/
def subOf (h : Fin 32) : Fin 4 := ⟨h % 4, by omega⟩

theorem headOf_grpOf (h : Fin 32) : headOf (grpOf h) (subOf h) = h := Fin.ext (by simp [headOf, grpOf, subOf]; omega)

/-- The arguments: batch entry first, and the axes in the order in which the arguments have them. -/
structure Args where
  /-- The queries. -/
  q : (⟨4, ![2, 640, 32, 96]⟩ : Shape).Idx → EReal
  /-- The query scales. -/
  qs : (⟨3, ![2, 640, 32]⟩ : Shape).Idx → EReal
  /-- The keys. -/
  k : (⟨4, ![2, 640, 8, 96]⟩ : Shape).Idx → EReal
  /-- The key scales. -/
  ks : (⟨3, ![2, 640, 8]⟩ : Shape).Idx → EReal
  /-- The values. -/
  v : (⟨4, ![2, 640, 8, 96]⟩ : Shape).Idx → EReal
  /-- The value scales. -/
  vs : (⟨3, ![2, 640, 8]⟩ : Shape).Idx → EReal
  /-- The output of the forward pass. -/
  o : (⟨4, ![2, 640, 32, 96]⟩ : Shape).Idx → EReal
  /-- The log-sum-exps. -/
  lse : (⟨3, ![2, 32, 640]⟩ : Shape).Idx → EReal
  /-- The gradient of the output. -/
  dO : (⟨4, ![2, 640, 32, 96]⟩ : Shape).Idx → EReal
  /-- The scales of the gradient of the output. -/
  ds : (⟨2, ![2, 640]⟩ : Shape).Idx → EReal

namespace Args
variable (A : Args)

/-- What batch entry `b` and key/value head `g` read. -/
def block (b : Fin 2) (g : Fin 8) : Block where
  q x d i := A.q (ix4 b i (headOf g x) d)
  dO x d i := A.dO (ix4 b i (headOf g x) d)
  o x d i := A.o (ix4 b i (headOf g x) d)
  k d j := A.k (ix4 b j g d)
  v d j := A.v (ix4 b j g d)
  qs x i := A.qs (ix3 b i (headOf g x))
  lse x i := A.lse (ix3 b (headOf g x) i)
  ks j := A.ks (ix3 b j g)
  vs j := A.vs (ix3 b j g)
  ds i := A.ds (ix2 b i)

/-- The gradient of the queries. -/
def dq (b : Fin 2) (h : Fin 32) (d : Fin 96) (i : Fin 640) : EReal := (A.block b (grpOf h)).dq (subOf h) d i
/-- The gradient of the keys. -/
def dk (b : Fin 2) (g : Fin 8) (d : Fin 96) (j : Fin 640) : EReal := (A.block b g).dk d j
/-- The gradient of the values. -/
def dv (b : Fin 2) (g : Fin 8) (d : Fin 96) (j : Fin 640) : EReal := (A.block b g).dv d j

theorem dq_headOf (b : Fin 2) (g : Fin 8) (x : Fin 4) (d : Fin 96) (i : Fin 640) :
    A.dq b (headOf g x) d i = (A.block b g).dq x d i := by
  have hg : grpOf (headOf g x) = g := Fin.ext (by simp [grpOf, headOf]; omega)
  have hx : subOf (headOf g x) = x := Fin.ext (by simp [subOf, headOf])
  rw [dq, hg, hx]

end Args
end Cert.Gqa
-- ==== Proof.Kernel.Blocks.lean ====
module

public import proofs.«01_k».proof.Proof.Gen.KernelIdeal.Frame
public import proofs.«01_k».proof.Proof.Block.Tensors
public import proofs.«01_k».proof.Proof.Math.Args
public import Idealize.ShloMosaic.Lib.Pipeline.ReadBack
public import Idealize.ShloMosaic.Lib.StableHlo.ReadAt

/-!
What the blocks of the kernel's windows are in terms of the arguments.
-/

@[expose] public section
set_option maxRecDepth 16384
noncomputable section

namespace Cert.KernelIdeal.Gen
open Idealize.ShloMosaic Idealize.ShloMosaic.TcCoe Idealize.SL Idealize.SL.Sem Idealize.ShloMosaic.Tactic
open Idealize.ShloMosaic.Pipeline (Dat Cfg Window)
open Cert.Gqa

/-- The batch entry of a grid point. -/
def bat (t : Fin grid0.N) : Fin 2 := grid0.coords t 0
/-- The key/value head of a grid point. -/
def grp (t : Fin grid0.N) : Fin 8 := grid0.coords t 1

/-! ## The place of a block in its array -/

theorem place_heads {b : Fin 2} {g : Fin 8} {ix : Fin 4 → ℕ} (h : ix = ![(b : ℕ), g, 0, 0]) (hix) (x : Fin 4) (d : Fin 96)
    (i : Fin 640) : (Rect.block (s := S2x32x96x640) S1x4x96x640.size ix hix).idx (ix4 0 x d i) = ix4 b (headOf g x) d i := by
  subst h; funext a; fin_cases a <;> exact Fin.ext (by simp [headOf, Nat.mul_comm])

theorem place_group {b : Fin 2} {g : Fin 8} {ix : Fin 4 → ℕ} (h : ix = ![(b : ℕ), g, 0, 0]) (hix) (d : Fin 96)
    (i : Fin 640) : (Rect.block (s := S2x8x96x640) S1x1x96x640.size ix hix).idx (ix4 0 0 d i) = ix4 b g d i := by
  subst h; funext a; fin_cases a <;> exact Fin.ext (by simp)

theorem place_rows {b : Fin 2} {g : Fin 8} {ix : Fin 4 → ℕ} (h : ix = ![(b : ℕ), g, 0, 0]) (hix) (x : Fin 4)
    (i : Fin 640) : (Rect.block (s := S2x8x4x640) S1x1x4x640.size ix hix).idx (ix4 0 0 x i) = ix4 b g x i := by
  subst h; funext a; fin_cases a <;> exact Fin.ext (by simp)

theorem place_keys {b : Fin 2} {g : Fin 8} {ix : Fin 3 → ℕ} (h : ix = ![8 * (b : ℕ) + g, 0, 0]) (hix)
    (i : Fin 640) : (Rect.block (s := S16x1x640) S1x1x640.size ix hix).idx (ix3 0 0 i)
      = ix3 (⟨8 * b + g, by omega⟩ : Fin 16) (0 : Fin 1) i := by
  subst h; funext a; fin_cases a <;> exact Fin.ext (by simp)

theorem place_queries {b : Fin 2} {ix : Fin 3 → ℕ} (h : ix = ![(b : ℕ), 0, 0]) (hix)
    (i : Fin 640) : (Rect.block (s := S2x1x640) S1x1x640.size ix hix).idx (ix3 0 0 i) = ix3 b (0 : Fin 1) i := by
  subst h; funext a; fin_cases a <;> exact Fin.ext (by simp)

theorem index_heads : ∀ t : Fin grid0.N, cc0_transform_0 (grid0.coords t) = ![(bat t).val, (grp t).val, 0, 0] := by
  decide +kernel
theorem index_keys : ∀ t : Fin grid0.N, cc0_transform_6 (grid0.coords t) = ![8 * (bat t).val + (grp t).val, 0, 0] := by
  decide +kernel
theorem index_queries : ∀ t : Fin grid0.N, cc0_transform_8 (grid0.coords t) = ![(bat t).val, 0, 0] := by
  decide +kernel

theorem emb_0 (t : Fin grid0.N) (x : Fin 4) (d : Fin 96) (i : Fin 640) :
    ((View.whole main_v0).slice (win0_0.rect t)).emb (ix4 0 x d i) = ix4 (bat t) (headOf (grp t) x) d i :=
  place_heads (index_heads t) (Facts₀.hinb0_0 (grid0.coords t)) x d i
theorem emb_1 (t : Fin grid0.N) (x : Fin 4) (d : Fin 96) (i : Fin 640) :
    ((View.whole main_v1).slice (win0_1.rect t)).emb (ix4 0 x d i) = ix4 (bat t) (headOf (grp t) x) d i :=
  place_heads (index_heads t) (Facts₀.hinb0_1 (grid0.coords t)) x d i
theorem emb_2 (t : Fin grid0.N) (x : Fin 4) (d : Fin 96) (i : Fin 640) :
    ((View.whole main_v2).slice (win0_2.rect t)).emb (ix4 0 x d i) = ix4 (bat t) (headOf (grp t) x) d i :=
  place_heads (index_heads t) (Facts₀.hinb0_2 (grid0.coords t)) x d i
theorem emb_3 (t : Fin grid0.N) (d : Fin 96) (i : Fin 640) :
    ((View.whole main_v3).slice (win0_3.rect t)).emb (ix4 0 0 d i) = ix4 (bat t) (grp t) d i :=
  place_group (index_heads t) (Facts₀.hinb0_3 (grid0.coords t)) d i
theorem emb_4 (t : Fin grid0.N) (d : Fin 96) (i : Fin 640) :
    ((View.whole main_v4).slice (win0_4.rect t)).emb (ix4 0 0 d i) = ix4 (bat t) (grp t) d i :=
  place_group (index_heads t) (Facts₀.hinb0_4 (grid0.coords t)) d i
theorem emb_5 (t : Fin grid0.N) (x : Fin 4) (i : Fin 640) :
    ((View.whole main_v6).slice (win0_5.rect t)).emb (ix4 0 0 x i) = ix4 (bat t) (grp t) x i :=
  place_rows (index_heads t) (Facts₀.hinb0_5 (grid0.coords t)) x i
theorem emb_6 (t : Fin grid0.N) (i : Fin 640) : ((View.whole main_v8).slice (win0_6.rect t)).emb (ix3 0 0 i)
    = ix3 (⟨8 * bat t + grp t, by omega⟩ : Fin 16) (0 : Fin 1) i := place_keys (index_keys t) (Facts₀.hinb0_6 (grid0.coords t)) i
theorem emb_7 (t : Fin grid0.N) (i : Fin 640) : ((View.whole main_v10).slice (win0_7.rect t)).emb (ix3 0 0 i)
    = ix3 (⟨8 * bat t + grp t, by omega⟩ : Fin 16) (0 : Fin 1) i := place_keys (index_keys t) (Facts₀.hinb0_7 (grid0.coords t)) i
theorem emb_8 (t : Fin grid0.N) (i : Fin 640) : ((View.whole main_v11).slice (win0_8.rect t)).emb (ix3 0 0 i)
    = ix3 (bat t) (0 : Fin 1) i := place_queries (index_queries t) (Facts₀.hinb0_8 (grid0.coords t)) i
theorem emb_9 (t : Fin grid0.N) (x : Fin 4) (i : Fin 640) :
    ((View.whole main_v12).slice (win0_9.rect t)).emb (ix4 0 0 x i) = ix4 (bat t) (grp t) x i :=
  place_rows (index_heads t) (Facts₀.hinb0_9 (grid0.coords t)) x i
theorem emb_10 (t : Fin grid0.N) (x : Fin 4) (d : Fin 96) (i : Fin 640) :
    ((View.whole main_v13_0).slice (win0_10.rect t)).emb (ix4 0 x d i) = ix4 (bat t) (headOf (grp t) x) d i :=
  place_heads (index_heads t) (Facts₀.hinb0_10 (grid0.coords t)) x d i
theorem emb_11 (t : Fin grid0.N) (d : Fin 96) (i : Fin 640) :
    ((View.whole main_v13_1).slice (win0_11.rect t)).emb (ix4 0 0 d i) = ix4 (bat t) (grp t) d i :=
  place_group (index_heads t) (Facts₀.hinb0_11 (grid0.coords t)) d i
theorem emb_12 (t : Fin grid0.N) (d : Fin 96) (i : Fin 640) :
    ((View.whole main_v13_2).slice (win0_12.rect t)).emb (ix4 0 0 d i) = ix4 (bat t) (grp t) d i :=
  place_group (index_heads t) (Facts₀.hinb0_12 (grid0.coords t)) d i

variable (m : (ℓ : Loc nD τ sig) → Buf (Elt Ideal) ℓ)

/-- The arguments in a memory. -/
def args (c : Dev nD) : Args where
  q := m (c, Proc.devRef .tc main_arg0)
  qs := m (c, Proc.devRef .tc main_arg1)
  k := m (c, Proc.devRef .tc main_arg2)
  ks := m (c, Proc.devRef .tc main_arg3)
  v := m (c, Proc.devRef .tc main_arg4)
  vs := m (c, Proc.devRef .tc main_arg5)
  o := m (c, Proc.devRef .tc main_arg6)
  lse := m (c, Proc.devRef .tc main_arg7)
  dO := m (c, Proc.devRef .tc main_arg8)
  ds := m (c, Proc.devRef .tc main_arg9)

theorem at_rows {e : S2x8x4x640.Idx} {b : Fin 2} {g : Fin 8} {x : Fin 4} {i : Fin 640} (he : e = ix4 b g x i)
    (T : (⟨3, ![2, 640, 32]⟩ : Shape).Idx → EReal) (h) :
    T (ix3 (e 0 : Fin 2) (e 3 : Fin 640) (⟨(e 1 : Fin 8) * 4 + (e 2 : Fin 4), h⟩ : Fin 32)) = T (ix3 b i (headOf g x)) := by
  subst he
  exact congrArg (fun z => T (ix3 b i z)) (Fin.ext (congrArg (· + (x : ℕ)) (Nat.mul_comm _ _)))

theorem at_lse {e : S2x8x4x640.Idx} {b : Fin 2} {g : Fin 8} {x : Fin 4} {i : Fin 640} (he : e = ix4 b g x i)
    (T : (⟨3, ![2, 32, 640]⟩ : Shape).Idx → EReal) (h) :
    T (ix3 (e 0 : Fin 2) (⟨(e 1 : Fin 8) * 4 + (e 2 : Fin 4), h⟩ : Fin 32) (e 3 : Fin 640)) = T (ix3 b (headOf g x) i) := by
  subst he
  exact congrArg (fun z => T (ix3 b z i)) (Fin.ext (congrArg (· + (x : ℕ)) (Nat.mul_comm _ _)))

theorem at_keys {e : S16x1x640.Idx} {b : Fin 2} {g : Fin 8} {j : Fin 640} {h0}
    (he : e = ix3 (⟨8 * b + g, h0⟩ : Fin 16) (0 : Fin 1) j) (T : (⟨3, ![2, 640, 8]⟩ : Shape).Idx → EReal) (h1) (h2) :
    T (ix3 (⟨(e 0 : Fin 16) / 8, h1⟩ : Fin 2) (e 2 : Fin 640) (⟨(e 0 : Fin 16) % 8, h2⟩ : Fin 8)) = T (ix3 b j g) := by
  subst he
  have hb : (8 * (b : ℕ) + g) / 8 = b := by omega
  have hg : (8 * (b : ℕ) + g) % 8 = g := by omega
  exact congrArg₂ (fun y z => T (ix3 y j z)) (Fin.ext hb) (Fin.ext hg)

set_option maxHeartbeats 400000 in
/-- Every grid point reads the block of its batch entry and key/value head. -/
theorem reads (c : Dev nD) (t : Fin grid0.N) :
    Reads ((args m c).block (bat t) (grp t)) (iblk m c 0 t) (iblk m c 1 t) (iblk m c 2 t) (iblk m c 3 t) (iblk m c 4 t)
      (iblk m c 5 t) (iblk m c 6 t) (iblk m c 7 t) (iblk m c 8 t) (iblk m c 9 t) where
  q x d i := by
    unfold iblk V; blk_simp; after_reads_at; rw [emb_0]; rfl
  dO x d i := by
    unfold iblk V; blk_simp; after_reads_at; rw [emb_1]; rfl
  o x d i := by
    unfold iblk V; blk_simp; after_reads_at; rw [emb_2]; rfl
  k d j := by
    unfold iblk V; blk_simp; after_reads_at; rw [emb_3]; rfl
  v d j := by
    unfold iblk V; blk_simp; after_reads_at; rw [emb_4]; rfl
  qs x i := by
    unfold iblk V; blk_simp; after_reads_at; exact at_rows (emb_5 t x i) _ _
  ks j := by
    unfold iblk V; blk_simp; after_reads_at; exact at_keys (emb_6 t j) _ _ _
  vs j := by
    unfold iblk V; blk_simp; after_reads_at; exact at_keys (emb_7 t j) _ _ _
  ds i := by
    unfold iblk V; blk_simp; after_reads_at; rw [emb_8]; rfl
  lse x i := by
    unfold iblk V; blk_simp; after_reads_at; exact at_lse (emb_9 t x i) _ _

end Cert.KernelIdeal.Gen
-- ==== Proof.Kernel.Dq.lean ====
module

public import proofs.«01_k».proof.Proof.Gen.KernelIdeal.Frame
public import proofs.«01_k».proof.Proof.Block.Tensors
public import Idealize.ShloMosaic.Lib.Pipeline.ReadBack

/-!
The stores of the kernel into the array of the query gradient: at every grid point a block of 128 positions for each
of the five chunks and the four heads, which together cover the block and hold the query gradient of the model.
-/

@[expose] public section
set_option maxRecDepth 16384
noncomputable section

namespace Cert.KernelIdeal.Gen
open Idealize.ShloMosaic Idealize.ShloMosaic.TcCoe Idealize.SL Idealize.SL.Sem Idealize.ShloMosaic.Tactic
open Idealize.ShloMosaic.Pipeline (Dat Cfg Window)
open Cert.Gqa

variable (m : (ℓ : Loc nD τ sig) → Buf (Elt Ideal) ℓ)

/-- The same value at an index written another way. -/
theorem at_head {Q : Fin 4 → Fin 96 → Fin 640 → EReal} {v : EReal} {x x' : Fin 4} {d d' : Fin 96} {i i' : Fin 640}
    (h : v = Q x d i) (hx : x = x') (hd : d = d') (hi : i = i') : v = Q x' d' i' := by subst hx hd hi; exact h

set_option maxHeartbeats 1000000 in
/-- When every grid point reads the block `B t`, the array of the query gradient after the grid is the one whose blocks are the
    query gradients of the model. -/
theorem dq_array (c : Dev nD) (B : Fin cfg0.grid.N → Block)
    (R : ∀ t, Reads (B t) (iblk m c 0 t) (iblk m c 1 t) (iblk m c 2 t) (iblk m c 3 t) (iblk m c 4 t) (iblk m c 5 t)
      (iblk m c 6 t) (iblk m c 7 t) (iblk m c 8 t) (iblk m c 9 t))
    (G : S2x32x96x640.Idx → EReal)
    (hG : ∀ t x d i, G (((View.whole main_v13_0).slice (win0_10.rect t)).emb (ix4 0 x d i)) = (B t).dq x d i) :
    (dats m 0 c).arrAt 10 (cfgs 0).N = G := by
  refine (dats m 0 c).arrAt_eq_of_covers 10 _ (by decide +kernel) fun t hf y => ?_
  blk_simp; rw [after0_10]
  unfold outsAt0; dsimp only
  frame_open
  simp (disch := decide) only [↓ View.readCov_skip, ↓ View.readCov_cons_toLoadRect, ↓ View.readCov_fill]
  frame_out
  repeat rw [Memref.IsWhole.read_unread]
  refine Eq.trans ?_ (b := (B t).dq (y 1) (y 2) (y 3)) ?_
  · have R := R t
    have hk := byKey_k R.k
    have hks := sameByKey_k R.ks
    have hv := byKey_v R.v R.vs
    have hkw := byChannel_k R.k R.ks
    have p4 :=
      R.probs (c := 4) (o := 512) (w := 640) (ho := by decide) rfl rfl hk hks (by decide) (by decide)
        (by decide) (by decide) (by decide)
    have g4 := R.scoreGrads (c := 4) (o := 512) (ho := by decide) rfl p4 hv (by decide)
    have d4 := head_piece (cols_dq (c := 4) (w := 640) rfl (keys_trunc g4) hkw)
    have p3 :=
      R.probs (c := 3) (o := 384) (w := 512) (hw := by decide) (ho := by decide) rfl rfl (byKey_first hk)
        (sameByKey_first hks) (by decide) (by decide) (by decide) (by decide) (by decide)
    have g3 := R.scoreGrads (c := 3) (o := 384) (ho := by decide) rfl p3 (byKey_first hv) (by decide)
    have d3 := head_piece (cols_dq (c := 3) (w := 512) rfl (keys_trunc g3) (byChannel_first hkw))
    have p2 :=
      R.probs (c := 2) (o := 256) (w := 384) (hw := by decide) (ho := by decide) rfl rfl (byKey_first hk)
        (sameByKey_first hks) (by decide) (by decide) (by decide) (by decide) (by decide)
    have g2 := R.scoreGrads (c := 2) (o := 256) (ho := by decide) rfl p2 (byKey_first hv) (by decide)
    have d2 := head_piece (cols_dq (c := 2) (w := 384) rfl (keys_trunc g2) (byChannel_first hkw))
    have p1 :=
      R.probs (c := 1) (o := 128) (w := 256) (hw := by decide) (ho := by decide) rfl rfl (byKey_first hk)
        (sameByKey_first hks) (by decide) (by decide) (by decide) (by decide) (by decide)
    have g1 := R.scoreGrads (c := 1) (o := 128) (ho := by decide) rfl p1 (byKey_first hv) (by decide)
    have d1 := head_piece (cols_dq (c := 1) (w := 256) rfl (keys_trunc g1) (byChannel_first hkw))
    have p0 := R.probsFirst (hw := by decide) (byKey_first hk) (sameByKey_first hks) (by decide) (by decide)
    have g0 := R.scoreGrads (c := 0) (o := 0) (ho := by decide) rfl p0 (byKey_first hv) (by decide)
    have d0 := head_piece (cols_dq (c := 0) (w := 128) rfl (keys_trunc g0) (byChannel_first hkw))
    canon_tiles y h
    · exact at_head ((d0 y).2.2.2) (Fin.ext (by rw [h1]; exact (congrArg (3 + ·) (Nat.lt_one_iff.mp
        (y 1).isLt)).symm)) (Fin.ext h2.symm) (Fin.ext ((Nat.zero_add _).trans h3.symm))
    · exact at_head ((d0 y).2.2.1) (Fin.ext (by rw [h1]; exact (congrArg (2 + ·) (Nat.lt_one_iff.mp
        (y 1).isLt)).symm)) (Fin.ext h2.symm) (Fin.ext ((Nat.zero_add _).trans h3.symm))
    · exact at_head ((d0 y).2.1) (Fin.ext (by rw [h1]; exact (congrArg (1 + ·) (Nat.lt_one_iff.mp
        (y 1).isLt)).symm)) (Fin.ext h2.symm) (Fin.ext ((Nat.zero_add _).trans h3.symm))
    · exact at_head ((d0 y).1) (Fin.ext (h1.trans (Nat.lt_one_iff.mp (y 1).isLt)).symm) (Fin.ext h2.symm)
        (Fin.ext ((Nat.zero_add _).trans h3.symm))
    · exact at_head ((d1 y).2.2.2) (Fin.ext (by rw [h1]; exact (congrArg (3 + ·) (Nat.lt_one_iff.mp
        (y 1).isLt)).symm)) (Fin.ext h2.symm) (Fin.ext h3.symm)
    · exact at_head ((d1 y).2.2.1) (Fin.ext (by rw [h1]; exact (congrArg (2 + ·) (Nat.lt_one_iff.mp
        (y 1).isLt)).symm)) (Fin.ext h2.symm) (Fin.ext h3.symm)
    · exact at_head ((d1 y).2.1) (Fin.ext (by rw [h1]; exact (congrArg (1 + ·) (Nat.lt_one_iff.mp
        (y 1).isLt)).symm)) (Fin.ext h2.symm) (Fin.ext h3.symm)
    · exact at_head ((d1 y).1) (Fin.ext (h1.trans (Nat.lt_one_iff.mp (y 1).isLt)).symm) (Fin.ext h2.symm)
        (Fin.ext h3.symm)
    · exact at_head ((d2 y).2.2.2) (Fin.ext (by rw [h1]; exact (congrArg (3 + ·) (Nat.lt_one_iff.mp
        (y 1).isLt)).symm)) (Fin.ext h2.symm) (Fin.ext h3.symm)
    · exact at_head ((d2 y).2.2.1) (Fin.ext (by rw [h1]; exact (congrArg (2 + ·) (Nat.lt_one_iff.mp
        (y 1).isLt)).symm)) (Fin.ext h2.symm) (Fin.ext h3.symm)
    · exact at_head ((d2 y).2.1) (Fin.ext (by rw [h1]; exact (congrArg (1 + ·) (Nat.lt_one_iff.mp
        (y 1).isLt)).symm)) (Fin.ext h2.symm) (Fin.ext h3.symm)
    · exact at_head ((d2 y).1) (Fin.ext (h1.trans (Nat.lt_one_iff.mp (y 1).isLt)).symm) (Fin.ext h2.symm)
        (Fin.ext h3.symm)
    · exact at_head ((d3 y).2.2.2) (Fin.ext (by rw [h1]; exact (congrArg (3 + ·) (Nat.lt_one_iff.mp
        (y 1).isLt)).symm)) (Fin.ext h2.symm) (Fin.ext h3.symm)
    · exact at_head ((d3 y).2.2.1) (Fin.ext (by rw [h1]; exact (congrArg (2 + ·) (Nat.lt_one_iff.mp
        (y 1).isLt)).symm)) (Fin.ext h2.symm) (Fin.ext h3.symm)
    · exact at_head ((d3 y).2.1) (Fin.ext (by rw [h1]; exact (congrArg (1 + ·) (Nat.lt_one_iff.mp
        (y 1).isLt)).symm)) (Fin.ext h2.symm) (Fin.ext h3.symm)
    · exact at_head ((d3 y).1) (Fin.ext (h1.trans (Nat.lt_one_iff.mp (y 1).isLt)).symm) (Fin.ext h2.symm)
        (Fin.ext h3.symm)
    · exact at_head ((d4 y).2.2.2) (Fin.ext (by rw [h1]; exact (congrArg (3 + ·) (Nat.lt_one_iff.mp
        (y 1).isLt)).symm)) (Fin.ext h2.symm) (Fin.ext h3.symm)
    · exact at_head ((d4 y).2.2.1) (Fin.ext (by rw [h1]; exact (congrArg (2 + ·) (Nat.lt_one_iff.mp
        (y 1).isLt)).symm)) (Fin.ext h2.symm) (Fin.ext h3.symm)
    · exact at_head ((d4 y).2.1) (Fin.ext (by rw [h1]; exact (congrArg (1 + ·) (Nat.lt_one_iff.mp
        (y 1).isLt)).symm)) (Fin.ext h2.symm) (Fin.ext h3.symm)
    · exact at_head ((d4 y).1) (Fin.ext (h1.trans (Nat.lt_one_iff.mp (y 1).isLt)).symm) (Fin.ext h2.symm)
        (Fin.ext h3.symm)
  · refine (hG t (y 1) (y 2) (y 3)).symm.trans ?_
    idx_vars y
    refine congrArg (fun z => G (((View.whole main_v13_0).slice (win0_10.rect t)).emb z)) ?_
    rw [Subsingleton.elim y0 0]

end Cert.KernelIdeal.Gen
-- ==== Proof.Kernel.Dk.lean ====
module

public import proofs.«01_k».proof.Proof.Gen.KernelIdeal.Frame
public import proofs.«01_k».proof.Proof.Block.Tensors
public import Idealize.ShloMosaic.Lib.Pipeline.ReadBack

/-!
The stores of the kernel into the array of the key gradient: at every grid point five blocks of 128 keys, which
together cover the block and hold the key gradient of the model.
-/

@[expose] public section
set_option maxRecDepth 16384
noncomputable section

namespace Cert.KernelIdeal.Gen
open Idealize.ShloMosaic Idealize.ShloMosaic.TcCoe Idealize.SL Idealize.SL.Sem Idealize.ShloMosaic.Tactic
open Idealize.ShloMosaic.Pipeline (Dat Cfg Window)
open Cert.Gqa

variable (m : (ℓ : Loc nD τ sig) → Buf (Elt Ideal) ℓ)

set_option maxHeartbeats 1000000 in
/-- When every grid point reads the block `B t`, the array of the key gradient after the grid is the one whose blocks are the
    key gradients of the model. -/
theorem dk_array (c : Dev nD) (B : Fin cfg0.grid.N → Block)
    (R : ∀ t, Reads (B t) (iblk m c 0 t) (iblk m c 1 t) (iblk m c 2 t) (iblk m c 3 t) (iblk m c 4 t) (iblk m c 5 t)
      (iblk m c 6 t) (iblk m c 7 t) (iblk m c 8 t) (iblk m c 9 t))
    (G : S2x8x96x640.Idx → EReal)
    (hG : ∀ t d r, G (((View.whole main_v13_1).slice (win0_11.rect t)).emb (ix4 0 0 d r)) = (B t).dk d r) :
    (dats m 0 c).arrAt 11 (cfgs 0).N = G := by
  refine (dats m 0 c).arrAt_eq_of_covers 11 _ (by decide +kernel) fun t hf y => ?_
  blk_simp; rw [after0_11]
  unfold outsAt0; dsimp only
  frame_open
  simp (disch := decide) only [↓ View.readCov_skip, ↓ View.readCov_cons_toLoadRect, ↓ View.readCov_fill]
  frame_out
  repeat rw [Memref.IsWhole.read_unread]
  refine Eq.trans ?_ (b := (B t).dk (y 2) (y 3)) ?_
  · have R := R t
    have hk := byKey_k R.k
    have hks := sameByKey_k R.ks
    have hv := byKey_v R.v R.vs
    have p4 :=
      R.probs (c := 4) (o := 512) (w := 640) (ho := by decide) rfl rfl hk hks (by decide) (by decide)
        (by decide) (by decide) (by decide)
    have g4 := R.scoreGrads (c := 4) (o := 512) (ho := by decide) rfl p4 hv (by decide)
    have a4 := acc_last (R.queries (c := 4) (o := 512) (ho := by decide) rfl) (keys_trunc g4)
    have p3 :=
      R.probs (c := 3) (o := 384) (w := 512) (hw := by decide) (ho := by decide) rfl rfl (byKey_first hk)
        (sameByKey_first hks) (by decide) (by decide) (by decide) (by decide) (by decide)
    have g3 := R.scoreGrads (c := 3) (o := 384) (ho := by decide) rfl p3 (byKey_first hv) (by decide)
    have a3 :=
      acc_next (c := 3) rfl (R.queries (c := 3) (o := 384) (ho := by decide) rfl) (keys_trunc g3) (acc_save
        (w := 640) (w' := 512) (by decide) a4 (by decide) rfl)
    have p2 :=
      R.probs (c := 2) (o := 256) (w := 384) (hw := by decide) (ho := by decide) rfl rfl (byKey_first hk)
        (sameByKey_first hks) (by decide) (by decide) (by decide) (by decide) (by decide)
    have g2 := R.scoreGrads (c := 2) (o := 256) (ho := by decide) rfl p2 (byKey_first hv) (by decide)
    have a2 :=
      acc_next (c := 2) rfl (R.queries (c := 2) (o := 256) (ho := by decide) rfl) (keys_trunc g2) (acc_save
        (w := 512) (w' := 384) (by decide) a3 (by decide) rfl)
    have p1 :=
      R.probs (c := 1) (o := 128) (w := 256) (hw := by decide) (ho := by decide) rfl rfl (byKey_first hk)
        (sameByKey_first hks) (by decide) (by decide) (by decide) (by decide) (by decide)
    have g1 := R.scoreGrads (c := 1) (o := 128) (ho := by decide) rfl p1 (byKey_first hv) (by decide)
    have a1 :=
      acc_next (c := 1) rfl (R.queries (c := 1) (o := 128) (ho := by decide) rfl) (keys_trunc g1) (acc_save
        (w := 384) (w' := 256) (by decide) a2 (by decide) rfl)
    have p0 := R.probsFirst (hw := by decide) (byKey_first hk) (sameByKey_first hks) (by decide) (by decide)
    have g0 := R.scoreGrads (c := 0) (o := 0) (ho := by decide) rfl p0 (byKey_first hv) (by decide)
    have a0 :=
      acc_next (c := 0) rfl (R.queries (c := 0) (o := 0) (ho := by decide) rfl) (keys_trunc g0) (acc_save
        (w := 256) (w' := 128) (by decide) a1 (by decide) rfl)
    canon_tiles y h
    · exact (dk_piece_first a0 y).trans (congrArg₂ (B t).dk (Fin.ext h2.symm) (Fin.ext
        ((Nat.zero_add _).trans h3.symm)))
    · exact (dk_piece (c := 1) rfl (by decide) a1 (by decide) y).trans (congrArg₂ (B t).dk (Fin.ext h2.symm)
        (Fin.ext h3.symm))
    · exact (dk_piece (c := 2) rfl (by decide) a2 (by decide) y).trans (congrArg₂ (B t).dk (Fin.ext h2.symm)
        (Fin.ext h3.symm))
    · exact (dk_piece (c := 3) rfl (by decide) a3 (by decide) y).trans (congrArg₂ (B t).dk (Fin.ext h2.symm)
        (Fin.ext h3.symm))
    · exact (dk_piece (c := 4) rfl (by decide) a4 (by decide) y).trans (congrArg₂ (B t).dk (Fin.ext h2.symm)
        (Fin.ext h3.symm))
  · refine (hG t (y 2) (y 3)).symm.trans ?_
    idx_vars y
    refine congrArg (fun z => G (((View.whole main_v13_1).slice (win0_11.rect t)).emb z)) ?_
    rw [Subsingleton.elim y0 0, Subsingleton.elim y1 0]

end Cert.KernelIdeal.Gen
-- ==== Proof.Kernel.Dv.lean ====
module

public import proofs.«01_k».proof.Proof.Gen.KernelIdeal.Frame
public import proofs.«01_k».proof.Proof.Block.Tensors
public import Idealize.ShloMosaic.Lib.Pipeline.ReadBack

/-!
The stores of the kernel into the array of the value gradient: at every grid point five blocks of 128 keys, which
together cover the block and hold the value gradient of the model.
-/

@[expose] public section
set_option maxRecDepth 16384
noncomputable section

namespace Cert.KernelIdeal.Gen
open Idealize.ShloMosaic Idealize.ShloMosaic.TcCoe Idealize.SL Idealize.SL.Sem Idealize.ShloMosaic.Tactic
open Idealize.ShloMosaic.Pipeline (Dat Cfg Window)
open Cert.Gqa

variable (m : (ℓ : Loc nD τ sig) → Buf (Elt Ideal) ℓ)

set_option maxHeartbeats 1000000 in
/-- When every grid point reads the block `B t`, the array of the value gradient after the grid is the one whose blocks are the
    value gradients of the model. -/
theorem dv_array (c : Dev nD) (B : Fin cfg0.grid.N → Block)
    (R : ∀ t, Reads (B t) (iblk m c 0 t) (iblk m c 1 t) (iblk m c 2 t) (iblk m c 3 t) (iblk m c 4 t) (iblk m c 5 t)
      (iblk m c 6 t) (iblk m c 7 t) (iblk m c 8 t) (iblk m c 9 t))
    (G : S2x8x96x640.Idx → EReal)
    (hG : ∀ t d r, G (((View.whole main_v13_2).slice (win0_12.rect t)).emb (ix4 0 0 d r)) = (B t).dv d r) :
    (dats m 0 c).arrAt 12 (cfgs 0).N = G := by
  refine (dats m 0 c).arrAt_eq_of_covers 12 _ (by decide +kernel) fun t hf y => ?_
  blk_simp; rw [after0_12]
  unfold outsAt0; dsimp only
  frame_open
  simp (disch := decide) only [↓ View.readCov_skip, ↓ View.readCov_cons_toLoadRect, ↓ View.readCov_fill]
  frame_out
  repeat rw [Memref.IsWhole.read_unread]
  refine Eq.trans ?_ (b := (B t).dv (y 2) (y 3)) ?_
  · have R := R t
    have hk := byKey_k R.k
    have hks := sameByKey_k R.ks
    have p4 :=
      keys_trunc (R.probs (c := 4) (o := 512) (w := 640) (ho := by decide) rfl rfl hk hks (by decide)
        (by decide) (by decide) (by decide) (by decide))
    have a4 := acc_last (R.grads (c := 4) (o := 512) (ho := by decide) rfl) p4
    have p3 :=
      keys_trunc (R.probs (c := 3) (o := 384) (w := 512) (hw := by decide) (ho := by decide) rfl rfl
        (byKey_first hk) (sameByKey_first hks) (by decide) (by decide) (by decide) (by decide) (by decide))
    have a3 :=
      acc_next (c := 3) rfl (R.grads (c := 3) (o := 384) (ho := by decide) rfl) p3 (acc_save (w := 640)
        (w' := 512) (by decide) a4 (by decide) rfl)
    have p2 :=
      keys_trunc (R.probs (c := 2) (o := 256) (w := 384) (hw := by decide) (ho := by decide) rfl rfl
        (byKey_first hk) (sameByKey_first hks) (by decide) (by decide) (by decide) (by decide) (by decide))
    have a2 :=
      acc_next (c := 2) rfl (R.grads (c := 2) (o := 256) (ho := by decide) rfl) p2 (acc_save (w := 512)
        (w' := 384) (by decide) a3 (by decide) rfl)
    have p1 :=
      keys_trunc (R.probs (c := 1) (o := 128) (w := 256) (hw := by decide) (ho := by decide) rfl rfl
        (byKey_first hk) (sameByKey_first hks) (by decide) (by decide) (by decide) (by decide) (by decide))
    have a1 :=
      acc_next (c := 1) rfl (R.grads (c := 1) (o := 128) (ho := by decide) rfl) p1 (acc_save (w := 384)
        (w' := 256) (by decide) a2 (by decide) rfl)
    have p0 :=
      keys_trunc (R.probsFirst (hw := by decide) (byKey_first hk) (sameByKey_first hks) (by decide) (by decide))
    have a0 :=
      acc_next (c := 0) rfl (R.grads (c := 0) (o := 0) (ho := by decide) rfl) p0 (acc_save (w := 256)
        (w' := 128) (by decide) a1 (by decide) rfl)
    canon_tiles y h
    · exact (dv_piece_first a0 y).trans (congrArg₂ (B t).dv (Fin.ext h2.symm) (Fin.ext
        ((Nat.zero_add _).trans h3.symm)))
    · exact (dv_piece (c := 1) rfl (by decide) a1 (by decide) y).trans (congrArg₂ (B t).dv (Fin.ext h2.symm)
        (Fin.ext h3.symm))
    · exact (dv_piece (c := 2) rfl (by decide) a2 (by decide) y).trans (congrArg₂ (B t).dv (Fin.ext h2.symm)
        (Fin.ext h3.symm))
    · exact (dv_piece (c := 3) rfl (by decide) a3 (by decide) y).trans (congrArg₂ (B t).dv (Fin.ext h2.symm)
        (Fin.ext h3.symm))
    · exact (dv_piece (c := 4) rfl (by decide) a4 (by decide) y).trans (congrArg₂ (B t).dv (Fin.ext h2.symm)
        (Fin.ext h3.symm))
  · refine (hG t (y 2) (y 3)).symm.trans ?_
    idx_vars y
    refine congrArg (fun z => G (((View.whole main_v13_2).slice (win0_12.rect t)).emb z)) ?_
    rw [Subsingleton.elim y0 0, Subsingleton.elim y1 0]

end Cert.KernelIdeal.Gen
-- ==== Proof.Kernel.Results.lean ====
module

public import proofs.«01_k».proof.Proof.Kernel.Blocks
public import proofs.«01_k».proof.Proof.Kernel.Dq
public import proofs.«01_k».proof.Proof.Kernel.Dk
public import proofs.«01_k».proof.Proof.Kernel.Dv
public import Idealize.ShloMosaic.Lib.StableHlo.ReadAt
public import Idealize.ShloMosaic.Lib.Claim
public import Idealize.ShloMosaic.Lib.Pipeline.ValueKit

/-!
The three results of the kernel in terms of its arguments.
-/

@[expose] public section
set_option maxRecDepth 16384
noncomputable section

namespace Cert.KernelIdeal.Gen
open Idealize.ShloMosaic Idealize.ShloMosaic.TcCoe Idealize.SL Idealize.SL.Sem Idealize.ShloMosaic.Tactic
open Idealize.ShloMosaic.Pipeline (Dat Cfg Window)
open Cert.Gqa

variable (m : (ℓ : Loc nD τ sig) → Buf (Elt Ideal) ℓ)

theorem arrRef_injective : Function.Injective (Pipeline.arrRef spec0) := by decide

/-- The first result: the gradient of the queries. -/
theorem result_dq (c : Dev nD) : Pipeline.afterTail₀ cfgs (dats m) 0 (V0 m) [hostOps1] c main_v14
    = fun y : S2x640x32x96.Idx => (args m c).dq (y 0) (y 2) (y 3) (y 1) := by
  have h := dq_array m c (fun t => (args m c).block (bat t) (grp t)) (reads m c)
    (fun y => (args m c).dq (y 0) (y 1) (y 2) (y 3))
    (fun t x d i => by rw [emb_10]; exact (args m c).dq_headOf _ _ _ _ _)
  funext y
  idx_vars y
  unfold Pipeline.afterTail₀
  rw [List.flatten_cons, List.flatten_nil, List.append_nil]
  after_reads_at
  exact congrFun ((Pipeline.withArrays_arr spec0 arrRef_injective c (V0 m c)
    (fun w => (dats m 0 c).arrAt w (cfgs 0).N) 10).trans h) (ix4 y0 y2 y3 y1)

/-- The second result: the gradient of the keys. -/
theorem result_dk (c : Dev nD) : Pipeline.afterTail₀ cfgs (dats m) 0 (V0 m) [hostOps1] c main_v15
    = fun y : S2x640x8x96.Idx => (args m c).dk (y 0) (y 2) (y 3) (y 1) := by
  have h := dk_array m c (fun t => (args m c).block (bat t) (grp t)) (reads m c)
    (fun y => (args m c).dk (y 0) (y 1) (y 2) (y 3)) (fun t d i => by rw [emb_11]; rfl)
  funext y
  idx_vars y
  unfold Pipeline.afterTail₀
  rw [List.flatten_cons, List.flatten_nil, List.append_nil]
  after_reads_at
  exact congrFun ((Pipeline.withArrays_arr spec0 arrRef_injective c (V0 m c)
    (fun w => (dats m 0 c).arrAt w (cfgs 0).N) 11).trans h) (ix4 y0 y2 y3 y1)

/-- The third result: the gradient of the values. -/
theorem result_dv (c : Dev nD) : Pipeline.afterTail₀ cfgs (dats m) 0 (V0 m) [hostOps1] c main_v16
    = fun y : S2x640x8x96.Idx => (args m c).dv (y 0) (y 2) (y 3) (y 1) := by
  have h := dv_array m c (fun t => (args m c).block (bat t) (grp t)) (reads m c)
    (fun y => (args m c).dv (y 0) (y 1) (y 2) (y 3)) (fun t d i => by rw [emb_12]; rfl)
  funext y
  idx_vars y
  unfold Pipeline.afterTail₀
  rw [List.flatten_cons, List.flatten_nil, List.append_nil]
  after_reads_at
  exact congrFun ((Pipeline.withArrays_arr spec0 arrRef_injective c (V0 m c)
    (fun w => (dats m 0 c).arrAt w (cfgs 0).N) 12).trans h) (ix4 y0 y2 y3 y1)

end Cert.KernelIdeal.Gen
-- ==== Proof.Math.Plain.lean ====
module

public import proofs.«01_k».proof.Proof.Math.Model

/-!
The same mathematics in the plain arrangement: the scores scaled and masked with -∞ before a natural exponential, and
the gradient of the probability scaled after its sum over the channels. The second needs the two scales nonnegative and
finite; the first needs nothing.
-/

@[expose] public section
noncomputable section

namespace Cert.Gqa
open Idealize.ShloMosaic

/-- Multiplication by a positive real passes through a difference. -/
theorem sub_mul_coe (x y : EReal) {r : ℝ} (hr : 0 < r) : (x - y) * (r : EReal) = x * r - y * r := by
  rw [sub_eq_add_neg, EReal.right_distrib_of_nonneg_of_ne_top (EReal.coe_nonneg.mpr hr.le) (EReal.coe_ne_top r),
    sub_eq_add_neg, EReal.neg_mul]

/-- Multiplication by a nonnegative finite factor passes through a sum. -/
theorem sum_mul_finite {ι : Type*} (s : Finset ι) (f : ι → EReal) {c : EReal} (h0 : 0 ≤ c) (h1 : c ≠ ⊤) :
    (∑ a ∈ s, f a) * c = ∑ a ∈ s, f a * c := by
  classical
  induction s using Finset.induction with
  | empty => simp
  | insert a s ha ih => rw [Finset.sum_insert ha, Finset.sum_insert ha,
      EReal.right_distrib_of_nonneg_of_ne_top h0 h1, ih]

/-- The binary exponential at `y / ln 2` is the exponential at `y`. -/
theorem exp2_log2e (y : EReal) : Ideal.exp2 (y * log2e) = Ideal.exp y := by
  have hl : (0 : ℝ) < (Real.log 2)⁻¹ := inv_pos.mpr (Real.log_pos one_lt_two)
  induction y using EReal.rec with
  | bot => rw [EReal.bot_mul_coe_of_pos hl]; rfl
  | top => rw [EReal.top_mul_coe_of_pos hl]; rfl
  | coe r =>
    rw [← EReal.coe_mul, Ideal.exp2_coe, Ideal.exp_coe]
    congr 1
    show (2 : ℝ) ^ (r * (Real.log 2)⁻¹) = Real.exp r
    rw [Real.rpow_def_of_pos two_pos]
    congr 1
    have : Real.log 2 ≠ 0 := (Real.log_pos one_lt_two).ne'
    field_simp

namespace Block
variable (B : Block)

/-- The probability from the masked score. -/
theorem p_plain (x : Fin 4) (i j : Fin 640) :
    B.p x i j = Ideal.exp ((if j ≤ i then (∑ d, B.k d j * B.q x d i) * B.qs x i * B.ks j * sm else ⊥) - B.lse x i) := by
  by_cases h : j ≤ i
  · rw [p, if_pos h, if_pos h, ← exp2_log2e, sub_mul_coe _ _ (inv_pos.mpr (Real.log_pos one_lt_two)), t]
    congr 2
    rw [smLog2e, EReal.coe_mul]
    change _ * (_ * (sm * log2e)) = _ * log2e
    generalize sm = a, log2e = b
    ac_rfl
  · rw [p, if_neg h, if_neg h, sub_eq_add_neg, EReal.bot_add, Ideal.exp_bot]

/-- The gradient of the probability, scaled after the sum. -/
theorem dp_plain (x : Fin 4) (i j : Fin 640) (hd : 0 ≤ B.ds i) (hd' : B.ds i ≠ ⊤) (hv : 0 ≤ B.vs j) (hv' : B.vs j ≠ ⊤) :
    (∑ d, B.v d j * B.dO x d i) * B.ds i * B.vs j = B.dp x i j := by
  rw [sum_mul_finite _ _ hd hd', sum_mul_finite _ _ hv hv', dp]
  refine Finset.sum_congr rfl fun d _ => ?_
  rw [vw, dw]
  ac_rfl

end Block
end Cert.Gqa
-- ==== Proof.Reference.Consts.lean ====
module

public import Idealize.ShloMosaic.PureOps.Ideal

/-!
The values of the constants the reference and the precondition write down.
-/

@[expose] public section
noncomputable section

namespace Cert.Gqa
open Idealize.ShloMosaic

theorem bits_96 : Ideal.ofBits FTy.f32 0x42C00000#32 = ((96 : ℝ) : EReal) := by
  simp [Ideal.ofBits, Ideal.ieee, -EReal.coe_mul]; norm_num
theorem bits_one : Ideal.ofBits FTy.f32 0x3F800000#32 = ((1 : ℝ) : EReal) := by
  simp [Ideal.ofBits, Ideal.ieee, -EReal.coe_mul]; norm_num
theorem bits_bot : Ideal.ofBits FTy.f32 0xFF800000#32 = ⊥ := by
  simp [Ideal.ofBits, Ideal.ieee]
theorem bits_top : Ideal.ofBits FTy.f32 0x7F800000#32 = ⊤ := by
  simp [Ideal.ofBits, Ideal.ieee]
theorem bits_zero : Ideal.ofBits FTy.f32 0x00000000#32 = 0 := by
  simp [Ideal.ofBits, Ideal.ieee]

/-- The reference's scale of the scores. -/
theorem scale_eq : Ideal.div 1 (Ideal.sqrt (Ideal.ofBits FTy.f32 0x42C00000#32)) = (((Real.sqrt 96)⁻¹ : ℝ) : EReal) := by
  have h : Real.sqrt 96 ≠ 0 := by positivity
  rw [bits_96, Ideal.sqrt_coe, if_neg (show ¬ (96 : ℝ) < 0 by norm_num)]
  rw [← EReal.coe_one, Ideal.div_coe h, one_div, EReal.coe_one, one_mul]
end Cert.Gqa
-- ==== Proof.Reference.Read.lean ====
module

public import proofs.«01_k».proof.Proof.Gen.ReferenceIdeal.Frame
public import proofs.«01_k».proof.Proof.Math.Plain
public import proofs.«01_k».proof.Proof.Math.Args
public import proofs.«01_k».proof.Proof.Reference.Consts
public import Idealize.ShloMosaic.Lib.StableHlo.ReadAt
public import Idealize.ShloMosaic.Lib.Pointwise.IndexVar
public import Idealize.ShloMosaic.Lib.Pipeline.ValueKit
public import Idealize.ShloMosaic.Lib.WordCmp

/-!
What the reference's host operations after its kernel compute, from the widened arguments, the other arguments and the
scale of the scores.
-/

@[expose] public section
set_option maxRecDepth 16384
noncomputable section

namespace Cert.ReferenceIdeal.Gen
open Idealize.ShloMosaic Idealize.ShloMosaic.TcCoe Idealize.SL Idealize.SL.Sem Idealize.ShloMosaic.Tactic
open Cert.Gqa

/-- What the host operations after the kernel find. -/
structure Finds (A : Args) (V : Valuation τ sig (Elt Ideal)) : Prop where
  q : V (Proc.devRef .tc main_v2_0) = A.q
  k : V (Proc.devRef .tc main_v2_1) = A.k
  v : V (Proc.devRef .tc main_v2_2) = A.v
  dO : V (Proc.devRef .tc main_v2_3) = A.dO
  qs : V (Proc.devRef .tc main_arg1) = A.qs
  ks : V (Proc.devRef .tc main_arg3) = A.ks
  vs : V (Proc.devRef .tc main_arg5) = A.vs
  o : V (Proc.devRef .tc main_arg6) = A.o
  lse : V (Proc.devRef .tc main_arg7) = A.lse
  ds : V (Proc.devRef .tc main_arg9) = A.ds
  sm : V (Proc.devRef .tc main_v1) ix0 = Gqa.sm

/-- The scales the claim bounds: those the reference multiplies into a sum of products the kernel scales first. -/
structure ScalesFinite (A : Args) : Prop where
  vs0 : ∀ y, 0 ≤ A.vs y
  vs1 : ∀ y, A.vs y ≠ ⊤
  ds0 : ∀ y, 0 ≤ A.ds y
  ds1 : ∀ y, A.ds y ≠ ⊤

variable {A : Args} {V : Valuation τ sig (Elt Ideal)}

/-- The causal mask as the reference writes it. -/
theorem masked (j i : Fin 640) (a b : EReal) :
    Scalar.select (IntOp.cmpi CmpIPredicate.sle (BitVec.ofNat 32 j) (BitVec.ofNat 32 i)) a b = if j ≤ i then a else b := by
  rw [WordCmp.cmpi_sle_ofNat (by omega) (by omega), WordCmp.select_ofBool]
  simp

/-- What the reference writes for a masked score. -/
theorem masked_score : (id (constant (F := Ideal) S_ .f32 0xFF800000#32) ix0 : EReal) = ⊥ := bits_bot

theorem head_eq (g : Fin 8) (x : Fin 4) (p) : (⟨(g : ℕ) * 4 + x, p⟩ : Fin 32) = headOf g x :=
  Fin.ext (congrArg (· + (x : ℕ)) (Nat.mul_comm _ _))

theorem head_eq' (n : Fin 32) (p) : (⟨(n : ℕ) / 4 * 4 + n % 4, p⟩ : Fin 32) = headOf (grpOf n) (subOf n) :=
  Fin.ext (congrArg (· + (n : ℕ) % 4) (Nat.mul_comm _ _))

/-- The probability as the reference writes it. -/
theorem p_eq (A : Args) (b : Fin 2) (g : Fin 8) (x : Fin 4) (i j : Fin 640) :
    Ideal.exp (Scalar.select (IntOp.cmpi CmpIPredicate.sle (BitVec.ofNat 32 j) (BitVec.ofNat 32 i))
        ((∑ d, A.k (ix4 b j g d) * A.q (ix4 b i (headOf g x) d)) * A.qs (ix3 b i (headOf g x)) * A.ks (ix3 b j g) * Gqa.sm)
        (id (constant (F := Ideal) S_ .f32 0xFF800000#32) ix0) - A.lse (ix3 b (headOf g x) i))
      = (A.block b g).p x i j := by
  rw [masked, masked_score]
  exact ((A.block b g).p_plain x i j).symm

/-- The gradient of the probability as the reference writes it. -/
theorem dp_eq (hA : ScalesFinite A) (b : Fin 2) (g : Fin 8) (x : Fin 4) (i j : Fin 640) :
    (∑ d, A.v (ix4 b j g d) * A.dO (ix4 b i (headOf g x) d)) * A.ds (ix2 b i) * A.vs (ix3 b j g)
      = (A.block b g).dp x i j :=
  (A.block b g).dp_plain x i j (hA.ds0 _) (hA.ds1 _) (hA.vs0 _) (hA.vs1 _)

set_option maxHeartbeats 400000 in
/-- The gradient of the values. -/
theorem host_dv (h : Finds A V) (b : Fin 2) (j : Fin 640) (g : Fin 8) (d : Fin 96) :
    StableHlo.after (hostOps1 ++ (hostOps1_1 ++ hostOps1_2)) V (Proc.devRef .tc main_v81) (ix4 b j g d)
      = A.dv b g d j := by
  after_reads_at
  simp only [h.q, h.k, h.dO, h.qs, h.ks, h.lse, h.ds, h.sm, head_eq]
  rw [Args.dv, Block.dv]
  refine Eq.trans Finset.sum_comm (Finset.sum_congr rfl fun x _ => Finset.sum_congr rfl fun i _ => ?_)
  exact congrArg (A.dO (ix4 b i (headOf g x) d) * A.ds (ix2 b i) * ·) (p_eq A b g x i j)

set_option maxHeartbeats 400000 in
/-- The gradient of the keys. -/
theorem host_dk (h : Finds A V) (hA : ScalesFinite A) (b : Fin 2) (j : Fin 640) (g : Fin 8) (d : Fin 96) :
    StableHlo.after (hostOps1 ++ (hostOps1_1 ++ hostOps1_2)) V (Proc.devRef .tc main_v77) (ix4 b j g d)
      = A.dk b g d j := by
  after_reads_at
  simp only [h.q, h.k, h.v, h.dO, h.qs, h.ks, h.vs, h.o, h.lse, h.ds, h.sm, head_eq]
  refine congrArg (· * Gqa.sm)
    (Eq.trans Finset.sum_comm (Finset.sum_congr rfl fun x _ => Finset.sum_congr rfl fun i _ => ?_))
  exact congrArg (A.q (ix4 b i (headOf g x) d) * A.qs (ix3 b i (headOf g x)) * ·)
    (congrArg₂ (fun p q => p * (q - _)) (p_eq A b g x i j) (dp_eq hA b g x i j))

set_option maxHeartbeats 400000 in
/-- The gradient of the queries. -/
theorem host_dq (h : Finds A V) (hA : ScalesFinite A) (b : Fin 2) (i : Fin 640) (n : Fin 32) (d : Fin 96) :
    StableHlo.after (hostOps1 ++ (hostOps1_1 ++ hostOps1_2)) V (Proc.devRef .tc main_v82) (ix4 b i n d)
      = A.dq b n d i := by
  after_reads_at
  simp only [h.q, h.k, h.v, h.dO, h.qs, h.ks, h.vs, h.o, h.lse, h.ds, h.sm, head_eq']
  refine congrArg (· * Gqa.sm) (Finset.sum_congr rfl fun j _ => ?_)
  exact congrArg (A.k (ix4 b j (grpOf n) d) * A.ks (ix3 b j (grpOf n)) * ·)
    (congrArg₂ (fun p q => p * (q - _)) (p_eq A b (grpOf n) (subOf n) i j) (dp_eq hA b (grpOf n) (subOf n) i j))

end Cert.ReferenceIdeal.Gen
-- ==== Proof.Reference.Widen.lean ====
module

public import proofs.«01_k».proof.Proof.Gen.ReferenceIdeal.Frame
public import Idealize.ShloMosaic.Lib.Pipeline.ReadBack
public import Idealize.ShloMosaic.Lib.StableHlo.ReadAt
public import Idealize.ShloMosaic.Lib.Pointwise.IndexVar
public import Idealize.ShloMosaic.Lib.Pipeline.ValueKit

/-!
The reference's one kernel widens four arguments; on the extended reals its results are the arguments.
-/

@[expose] public section
set_option maxRecDepth 16384
noncomputable section

namespace Cert.ReferenceIdeal.Gen
open Idealize.ShloMosaic Idealize.ShloMosaic.TcCoe Idealize.SL Idealize.SL.Sem Idealize.ShloMosaic.Tactic
open Idealize.ShloMosaic.Pipeline (Dat Cfg Window)

variable (m : (ℓ : Loc nD τ sig) → Buf (Elt Ideal) ℓ)

/-- The widened queries. -/
theorem widen_q (c : Dev nD) :
    (dats m 0 c).arrAt 4 (cfgs 0).N = (m (c, Proc.devRef .tc main_arg0) : S2x640x32x96.Idx → EReal) := by
  refine (dats m 0 c).arrAt_eq_of_covers 4 _ (by decide +kernel) fun t hf z => ?_
  blk_simp; rw [after0_4]; unfold out0_4
  canon_tiles y h
  have e : ∀ x, iblk m c 0 t x = m (c, Proc.devRef .tc main_arg0) ((win0_0.blk t).view.emb x) :=
    fun x => by unfold iblk; exact congrFun (V_main_arg0 m c) _
  have e0 : ∀ x a, ((win0_0.blk t).view.emb x a : ℕ) = (x a : ℕ) := fun x a => by simp [View.emb]; exact .inl rfl
  have e1 : ∀ x a, ((win0_4.blk t).view.emb x a : ℕ) = (x a : ℕ) := fun x a => by simp [View.emb]; exact .inl rfl
  refine (e _).trans (congrArg (m (c, Proc.devRef .tc main_arg0)) (funext fun a => Fin.ext ?_))
  refine (e0 _ a).trans (Eq.trans ?_ (e1 z a).symm)
  fin_cases a <;> simp [r0_0, h0, h1, h2, h3]

/-- The widened keys. -/
theorem widen_k (c : Dev nD) :
    (dats m 0 c).arrAt 5 (cfgs 0).N = (m (c, Proc.devRef .tc main_arg2) : S2x640x8x96.Idx → EReal) := by
  refine (dats m 0 c).arrAt_eq_of_covers 5 _ (by decide +kernel) fun t hf z => ?_
  blk_simp; rw [after0_5]; unfold out0_5
  canon_tiles y h
  have e : ∀ x, iblk m c 1 t x = m (c, Proc.devRef .tc main_arg2) ((win0_1.blk t).view.emb x) :=
    fun x => by unfold iblk; exact congrFun (V_main_arg2 m c) _
  have e0 : ∀ x a, ((win0_1.blk t).view.emb x a : ℕ) = (x a : ℕ) := fun x a => by simp [View.emb]; exact .inl rfl
  have e1 : ∀ x a, ((win0_5.blk t).view.emb x a : ℕ) = (x a : ℕ) := fun x a => by simp [View.emb]; exact .inl rfl
  refine (e _).trans (congrArg (m (c, Proc.devRef .tc main_arg2)) (funext fun a => Fin.ext ?_))
  refine (e0 _ a).trans (Eq.trans ?_ (e1 z a).symm)
  fin_cases a <;> simp [r0_1, h0, h1, h2, h3]

/-- The widened values. -/
theorem widen_v (c : Dev nD) :
    (dats m 0 c).arrAt 6 (cfgs 0).N = (m (c, Proc.devRef .tc main_arg4) : S2x640x8x96.Idx → EReal) := by
  refine (dats m 0 c).arrAt_eq_of_covers 6 _ (by decide +kernel) fun t hf z => ?_
  blk_simp; rw [after0_6]; unfold out0_6
  canon_tiles y h
  have e : ∀ x, iblk m c 2 t x = m (c, Proc.devRef .tc main_arg4) ((win0_2.blk t).view.emb x) :=
    fun x => by unfold iblk; exact congrFun (V_main_arg4 m c) _
  have e0 : ∀ x a, ((win0_2.blk t).view.emb x a : ℕ) = (x a : ℕ) := fun x a => by simp [View.emb]; exact .inl rfl
  have e1 : ∀ x a, ((win0_6.blk t).view.emb x a : ℕ) = (x a : ℕ) := fun x a => by simp [View.emb]; exact .inl rfl
  refine (e _).trans (congrArg (m (c, Proc.devRef .tc main_arg4)) (funext fun a => Fin.ext ?_))
  refine (e0 _ a).trans (Eq.trans ?_ (e1 z a).symm)
  fin_cases a <;> simp [r0_1, h0, h1, h2, h3]

/-- The widened gradient of the output. -/
theorem widen_dO (c : Dev nD) :
    (dats m 0 c).arrAt 7 (cfgs 0).N = (m (c, Proc.devRef .tc main_arg8) : S2x640x32x96.Idx → EReal) := by
  refine (dats m 0 c).arrAt_eq_of_covers 7 _ (by decide +kernel) fun t hf z => ?_
  blk_simp; rw [after0_7]; unfold out0_7
  canon_tiles y h
  have e : ∀ x, iblk m c 3 t x = m (c, Proc.devRef .tc main_arg8) ((win0_3.blk t).view.emb x) :=
    fun x => by unfold iblk; exact congrFun (V_main_arg8 m c) _
  have e0 : ∀ x a, ((win0_3.blk t).view.emb x a : ℕ) = (x a : ℕ) := fun x a => by simp [View.emb]; exact .inl rfl
  have e1 : ∀ x a, ((win0_7.blk t).view.emb x a : ℕ) = (x a : ℕ) := fun x a => by simp [View.emb]; exact .inl rfl
  refine (e _).trans (congrArg (m (c, Proc.devRef .tc main_arg8)) (funext fun a => Fin.ext ?_))
  refine (e0 _ a).trans (Eq.trans ?_ (e1 z a).symm)
  fin_cases a <;> simp [r0_0, h0, h1, h2, h3]

end Cert.ReferenceIdeal.Gen
-- ==== Proof.Reference.Results.lean ====
module

public import proofs.«01_k».proof.Proof.Reference.Read
public import proofs.«01_k».proof.Proof.Reference.Widen

/-!
The three results of the reference in terms of its arguments.
-/

@[expose] public section
set_option maxRecDepth 16384
noncomputable section

namespace Cert.ReferenceIdeal.Gen
open Idealize.ShloMosaic Idealize.ShloMosaic.TcCoe Idealize.SL Idealize.SL.Sem Idealize.ShloMosaic.Tactic
open Cert.Gqa

variable (m : (ℓ : Loc nD τ sig) → Buf (Elt Ideal) ℓ)

/-- The arguments in a memory. -/
def args (c : Dev nD) : Args where
  q := m (c, Proc.devRef .tc main_arg0)
  qs := m (c, Proc.devRef .tc main_arg1)
  k := m (c, Proc.devRef .tc main_arg2)
  ks := m (c, Proc.devRef .tc main_arg3)
  v := m (c, Proc.devRef .tc main_arg4)
  vs := m (c, Proc.devRef .tc main_arg5)
  o := m (c, Proc.devRef .tc main_arg6)
  lse := m (c, Proc.devRef .tc main_arg7)
  dO := m (c, Proc.devRef .tc main_arg8)
  ds := m (c, Proc.devRef .tc main_arg9)

theorem arrRef_injective : Function.Injective (Pipeline.arrRef spec0) := by decide

/-- What the arrays hold after the kernel. -/
abbrev mid (c : Dev nD) : Valuation τ sig (Elt Ideal) :=
  Pipeline.withArrays spec0 c (V0 m c) (fun w => (dats m 0 c).arrAt w (cfgs 0).N)

theorem mid_arr (c : Dev nD) (w : Fin 8) :
    mid m c (Proc.devRef .tc (Pipeline.arrRef spec0 w)) = (dats m 0 c).arrAt w (cfgs 0).N :=
  Pipeline.withArrays_arr spec0 arrRef_injective c (V0 m c) (fun w => (dats m 0 c).arrAt w (cfgs 0).N) w

theorem mid_of_ne (c : Dev nD) (b : Ref sig .tc) (h : ∀ w, Pipeline.arrRef spec0 w ≠ b) :
    mid m c (Proc.devRef .tc b) = V0 m c (Proc.devRef .tc b) :=
  Pipeline.withArrays_of_ne spec0 c (V0 m c) _ b h

theorem scale (c : Dev nD) : V0 m c (Proc.devRef .tc main_v1) ix0 = Gqa.sm := by
  unfold V0
  after_reads_at
  exact scale_eq

theorem finds (c : Dev nD) : Finds (args m c) (mid m c) where
  q := (mid_arr m c 4).trans (widen_q m c)
  k := (mid_arr m c 5).trans (widen_k m c)
  v := (mid_arr m c 6).trans (widen_v m c)
  dO := (mid_arr m c 7).trans (widen_dO m c)
  qs := (mid_of_ne m c main_arg1 (by decide)).trans (V_main_arg1 m c)
  ks := (mid_of_ne m c main_arg3 (by decide)).trans (V_main_arg3 m c)
  vs := (mid_of_ne m c main_arg5 (by decide)).trans (V_main_arg5 m c)
  o := (mid_of_ne m c main_arg6 (by decide)).trans (V_main_arg6 m c)
  lse := (mid_of_ne m c main_arg7 (by decide)).trans (V_main_arg7 m c)
  ds := (mid_of_ne m c main_arg9 (by decide)).trans (V_main_arg9 m c)
  sm := (congrFun (mid_of_ne m c main_v1 (by decide)) ix0).trans (scale m c)

/-- The first result: the gradient of the queries. -/
theorem result_dq (c : Dev nD) (hA : ScalesFinite (args m c)) :
    Pipeline.afterTail₀ cfgs (dats m) 0 (V0 m) [hostOps1, hostOps1_1, hostOps1_2] c main_v82
      = fun y : S2x640x32x96.Idx => (args m c).dq (y 0) (y 2) (y 3) (y 1) := by
  funext y
  idx_vars y
  unfold Pipeline.afterTail₀
  rw [List.flatten_cons, List.flatten_cons, List.flatten_cons, List.flatten_nil, List.append_nil]
  exact host_dq (finds m c) hA y0 y1 y2 y3

/-- The second result: the gradient of the keys. -/
theorem result_dk (c : Dev nD) (hA : ScalesFinite (args m c)) :
    Pipeline.afterTail₀ cfgs (dats m) 0 (V0 m) [hostOps1, hostOps1_1, hostOps1_2] c main_v77
      = fun y : S2x640x8x96.Idx => (args m c).dk (y 0) (y 2) (y 3) (y 1) := by
  funext y
  idx_vars y
  unfold Pipeline.afterTail₀
  rw [List.flatten_cons, List.flatten_cons, List.flatten_cons, List.flatten_nil, List.append_nil]
  exact host_dk (finds m c) hA y0 y1 y2 y3

/-- The third result: the gradient of the values. -/
theorem result_dv (c : Dev nD) :
    Pipeline.afterTail₀ cfgs (dats m) 0 (V0 m) [hostOps1, hostOps1_1, hostOps1_2] c main_v81
      = fun y : S2x640x8x96.Idx => (args m c).dv (y 0) (y 2) (y 3) (y 1) := by
  funext y
  idx_vars y
  unfold Pipeline.afterTail₀
  rw [List.flatten_cons, List.flatten_cons, List.flatten_cons, List.flatten_nil, List.append_nil]
  exact host_dv (finds m c) y0 y1 y2 y3

end Cert.ReferenceIdeal.Gen
-- ==== Proof.Reference.Scales.lean ====
module

public import proofs.«01_k».proof.Proof.Gen.Pre_scales_finite
public import proofs.«01_k».proof.Proof.Reference.Consts
public import Idealize.ShloMosaic.Lib.Pointwise

/-!
What the precondition says of the value scales and of the scales of the output gradient: none is negative and none is
infinite.
-/

@[expose] public section
noncomputable section

namespace Cert.Pre_scales_finite
open Idealize.ShloMosaic
open Cert.Gqa

/-- The two comparisons of the precondition at one number. -/
theorem test {x : EReal}
    (h : IntOp.andi (BitVec.ofBool (decide (0 ≤ x)))
      (BitVec.ofBool (decide (x < Ideal.ofBits FTy.f32 0x7F800000#32))) = 1#1) : 0 ≤ x ∧ x ≠ ⊤ := by
  rw [bits_top] at h
  by_cases h0 : 0 ≤ x
  · by_cases h1 : x < ⊤
    · exact ⟨h0, h1.ne⟩
    · rw [decide_eq_false h1, decide_eq_true h0] at h
      exact absurd h (by decide)
  · rw [decide_eq_false h0] at h
    by_cases h1 : x < ⊤
    · rw [decide_eq_true h1] at h
      exact absurd h (by decide)
    · rw [decide_eq_false h1] at h
      exact absurd h (by decide)

variable {a0 : FVec Ideal S2x640x32x96 .fp8e4m3} {a1 : FVec Ideal S2x640x32 .f32} {a2 : FVec Ideal S2x640x8x96 .fp8e4m3}
  {a3 : FVec Ideal S2x640x8 .f32} {a4 : FVec Ideal S2x640x8x96 .fp8e4m3} {a5 : FVec Ideal S2x640x8 .f32}
  {a6 : FVec Ideal S2x640x32x96 .bf16} {a7 : FVec Ideal S2x32x640 .f32} {a8 : FVec Ideal S2x640x32x96 .fp8e5m2}
  {a9 : FVec Ideal S2x640 .f32}

/-- The value scales. -/
theorem vs_of {y : S2x640x8.Idx} (h : (fn (F := Ideal) a0 a1 a2 a3 a4 a5 a6 a7 a8 a9).1 y = 1#1) :
    0 ≤ a5 y ∧ a5 y ≠ ⊤ := by
  unfold fn at h
  pointwise at h
  exact test h

/-- The scales of the gradient of the output. -/
theorem ds_of {y : S2x640.Idx} (h : (fn (F := Ideal) a0 a1 a2 a3 a4 a5 a6 a7 a8 a9).2 y = 1#1) :
    0 ≤ a9 y ∧ a9 y ≠ ⊤ := by
  unfold fn at h
  pointwise at h
  exact test h

end Cert.Pre_scales_finite
-- ==== Proof.Equal.Claim.lean ====
module

public import proofs.«01_k».proof.Defs
public import proofs.«01_k».proof.Proof.Kernel.Results
public import proofs.«01_k».proof.Proof.Reference.Results
public import proofs.«01_k».proof.Proof.Reference.Scales

/-!
The kernel and the reference compute the same three gradients.
-/

@[expose] public section
set_option maxRecDepth 16384
noncomputable section

namespace Cert.Proof
open Idealize.ShloMosaic Idealize.ShloMosaic.TcCoe Idealize.SL Idealize.SL.Sem Idealize.ShloMosaic.Tactic
open Cert.Gqa

/-- The precondition, of the kernel's arguments. -/
theorem scales (m : (ℓ : Loc Cert.KernelIdeal.nD Cert.KernelIdeal.τ Cert.KernelIdeal.sig) → Buf (Elt Ideal) ℓ)
    (h : Cert.Pre_KernelIdeal_scales_finite m) (c : Dev Cert.KernelIdeal.nD) :
    Cert.ReferenceIdeal.Gen.ScalesFinite (Cert.KernelIdeal.Gen.args m c) where
  vs0 y := (Cert.Pre_scales_finite.vs_of (congrFun (h c).1 y)).1
  vs1 y := (Cert.Pre_scales_finite.vs_of (congrFun (h c).1 y)).2
  ds0 y := (Cert.Pre_scales_finite.ds_of (congrFun (h c).2 y)).1
  ds1 y := (Cert.Pre_scales_finite.ds_of (congrFun (h c).2 y)).2

/-- Memories that agree on the arguments give the two programs the same arguments. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Gen.args m' c = Cert.KernelIdeal.Gen.args m c := by
  obtain ⟨h0, h1, h2, h3, h4, h5, h6, h7, h8, h9⟩ := h
  change (⟨_, _, _, _, _, _, _, _, _, _⟩ : Args) = ⟨_, _, _, _, _, _, _, _, _, _⟩
  congr 1

set_option maxHeartbeats 400000 in
/-- The three results agree. -/
theorem algebraic : Cert.algebraic_KernelIdeal_ReferenceIdeal_pre_scales_finite := by
  pair_intro
  · run_from (Cert.KernelIdeal.Gen.unchanged m g) & (Cert.KernelIdeal.Gen.run_main m g)
  · have ha c := args_eq m m' c (hagree c)
    have hs c : Cert.ReferenceIdeal.Gen.ScalesFinite (Cert.ReferenceIdeal.Gen.args m' c) := by
      rw [ha c]; exact scales m hpre c
    run_from (Cert.ReferenceIdeal.Gen.unchanged m' g') & (Cert.ReferenceIdeal.Gen.run_main m' g')
    · rw [Cert.ReferenceIdeal.Gen.result_dq m' c (hs c), ha c]
      exact (Cert.KernelIdeal.Gen.result_dq m c).symm
    · rw [Cert.ReferenceIdeal.Gen.result_dk m' c (hs c), ha c]
      exact (Cert.KernelIdeal.Gen.result_dk m c).symm
    · rw [Cert.ReferenceIdeal.Gen.result_dv m' c, ha c]
      exact (Cert.KernelIdeal.Gen.result_dv m c).symm

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_scales_finite
public import proofs.«01_k».proof.Proof.Equal.Claim
public import Idealize.ShloMosaic.Adequacy
public import Idealize.ShloMosaic.Init

@[expose] public section

noncomputable section

namespace Cert.Proof

open Idealize.ShloMosaic Idealize.SL.Sem Cert.Kernel

/-- The programs run without fault, the ideal kernel is the kernel with its constants named, and the ideal kernel and
    the reference compute the same three gradients. -/
theorem claim : Cert.Claim := ⟨Cert.Kernel.Gen.facts, Cert.KernelIdeal.Gen.facts, Cert.ReferenceIdeal.Gen.facts,
  Cert.Pre_scales_finite.Gen.facts,
  fun m ρ _ => Cert.Kernel.Gen.frame m ρ, fun m ρ _ => Cert.KernelIdeal.Gen.frame m ρ,
  fun m ρ _ => Cert.KernelIdeal.Gen.frame m ρ, fun m ρ _ => Cert.ReferenceIdeal.Gen.frame m ρ,
  fun m ρ _ => Cert.ReferenceIdeal.Gen.frame m ρ,
  ⟨IdealRules.named_const.statement Cert.KernelIdeal.κ "log2e" .f32 0x3FB8AA3B#32 (((Real.log 2)⁻¹ : ℝ) : EReal) rfl,
    IdealRules.named_const.statement Cert.KernelIdeal.κ "sm_log2e" .f32 0x3E16C740#32
      (((Real.sqrt 96)⁻¹ * (Real.log 2)⁻¹ : ℝ) : EReal) rfl,
    IdealRules.named_const.statement Cert.KernelIdeal.κ "sm" .f32 0x3DD105EC#32 (((Real.sqrt 96)⁻¹ : ℝ) : EReal) rfl⟩,
  algebraic⟩

end Cert.Proof

end
